-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S128x1x1024 : Shape := ⟨3, ![128, 1, 1024]⟩
abbrev S1024x64 : Shape := ⟨2, ![1024, 64]⟩
abbrev S64x1024x1024 : Shape := ⟨3, ![64, 1024, 1024]⟩
abbrev S1024x1024 : Shape := ⟨2, ![1024, 1024]⟩
abbrev S1024x1 : Shape := ⟨2, ![1024, 1]⟩
abbrev S128x1024 : Shape := ⟨2, ![128, 1024]⟩
abbrev S128x64 : Shape := ⟨2, ![128, 64]⟩
abbrev S_ : Shape := ⟨0, ![]⟩

class Facts : Prop where
  shapeCasts_S128x1x1024_S128x1024 : S128x1x1024.ShapeCasts S128x1024
  bcast_S_S128x64 : S_.BroadcastsInDim S128x64 (![] : Fin 0 → Fin S128x64.rank)
  dot_S128x1024_S1024x64_S128x64_1_0_0_1_n_n_wf : DotDims.WF S128x1024 S1024x64 S128x64 [1] [0] [0] [1] [] []

variable [Facts]

def dot_S128x1024_S1024x64_S128x64_1_0_0_1_n_n : DotDims S128x1024 S1024x64 S128x64 where
  lhsContracting := [1]
  rhsContracting := [0]
  lhsNonContracting := [0]
  rhsNonContracting := [1]
  lhsBatch := []
  rhsBatch := []
  wf := dot_S128x1024_S1024x64_S128x64_1_0_0_1_n_n_wf
def fn {F : FTy → Type} [FloatOps F] (main_arg0 : FVec F S128x1x1024 .f32) (main_arg1 : FVec F S1024x64 .f32) (main_arg2 : FVec F S64x1024x1024 .f32) (main_arg3 : FVec F S64x1024x1024 .f32) (main_arg4 : FVec F S64x1024x1024 .f32) (main_arg5 : FVec F S1024x1024 .f32) (main_arg6 : FVec F S1024x1024 .f32) (main_arg7 : FVec F S1024x1024 .f32) (main_arg8 : FVec F S1024x1 .f32) : IVec S128x64 1 :=
  let main_v0 : FVec F S128x1024 .f32 := shapeCast S128x1024 main_arg0 shapeCasts_S128x1x1024_S128x1024
  let main_v1 : FVec F S128x64 .f32 := (fun l r => Host.dotGeneral dot_S128x1024_S1024x64_S128x64_1_0_0_1_n_n none l r) main_v0 main_arg1
  let main_v2 : FVec F S128x64 .f32 := Host.absf main_v1
  let main_cst : FVec F S_ .f32 := constant S_ .f32 0x7F800000#32
  let main_v3 : FVec F S128x64 .f32 := broadcastInDim S128x64 ![] bcast_S_S128x64 main_cst
  let main_v4 : IVec S128x64 1 := cmpf .olt main_v2 main_v3
  main_v4
-- ==== Kernel.lean ====
abbrev S128x1x1024 : Shape := ⟨3, ![128, 1, 1024]⟩
abbrev S1024x64 : Shape := ⟨2, ![1024, 64]⟩
abbrev S64x1024x1024 : Shape := ⟨3, ![64, 1024, 1024]⟩
abbrev S1024x1024 : Shape := ⟨2, ![1024, 1024]⟩
abbrev S1024x1 : Shape := ⟨2, ![1024, 1]⟩
abbrev S128x1024 : Shape := ⟨2, ![128, 1024]⟩
abbrev S1x1024 : Shape := ⟨2, ![1, 1024]⟩
abbrev S1x1 : Shape := ⟨2, ![1, 1]⟩
abbrev S128x64 : Shape := ⟨2, ![128, 64]⟩
abbrev S1 : Shape := ⟨1, ![1]⟩
abbrev S3 : Shape := ⟨1, ![3]⟩
abbrev S_ : Shape := ⟨0, ![]⟩
abbrev S2x1x1024x1024 : Shape := ⟨4, ![2, 1, 1024, 1024]⟩
abbrev S2 : Shape := ⟨1, ![2]⟩
abbrev S1x1x1024x1024 : Shape := ⟨4, ![1, 1, 1024, 1024]⟩
abbrev S1x1024x1024 : Shape := ⟨3, ![1, 1024, 1024]⟩
abbrev S128 : Shape := ⟨1, ![128]⟩
abbrev S128x1 : Shape := ⟨2, ![128, 1]⟩
abbrev S64 : Shape := ⟨1, ![64]⟩
abbrev S1x64 : Shape := ⟨2, ![1, 64]⟩
abbrev S1x1x64 : Shape := ⟨3, ![1, 1, 64]⟩
abbrev S1x1x1 : Shape := ⟨3, ![1, 1, 1]⟩

abbrev nBuf : Space → Nat
  | .hbm => 15
  | .vmem => 12
  | .smem => 1
  | _ => 0

abbrev bufTy : (tb : Table) → Fin (tcTables nBuf tb) → BufTy
  | .hbm, ⟨0, _⟩ => ⟨S128x1x1024, .f32⟩
  | .hbm, ⟨1, _⟩ => ⟨S1024x64, .f32⟩
  | .hbm, ⟨2, _⟩ => ⟨S64x1024x1024, .f32⟩
  | .hbm, ⟨3, _⟩ => ⟨S64x1024x1024, .f32⟩
  | .hbm, ⟨4, _⟩ => ⟨S64x1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1, .f32⟩
  | .hbm, ⟨9, _⟩ => ⟨S128x1024, .f32⟩
  | .hbm, ⟨10, _⟩ => ⟨S1x1024, .f32⟩
  | .hbm, ⟨11, _⟩ => ⟨S128x1024, .f32⟩
  | .hbm, ⟨12, _⟩ => ⟨S1x1, .f32⟩
  | .hbm, ⟨13, _⟩ => ⟨S128x1x1024, .f32⟩
  | .hbm, ⟨14, _⟩ => ⟨S_, .f32⟩
  | .local _ .vmem, ⟨0, _⟩ => ⟨S128x1024, .f32⟩
  | .local _ .vmem, ⟨1, _⟩ => ⟨S1024x64, .f32⟩
  | .local _ .vmem, ⟨2, _⟩ => ⟨S1x1024, .f32⟩
  | .local _ .vmem, ⟨3, _⟩ => ⟨S128x1024, .f32⟩
  | .local _ .vmem, ⟨4, _⟩ => ⟨S1x1, .f32⟩
  | .local _ .vmem, ⟨5, _⟩ => ⟨S128x64, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S2x1x1024x1024, .f32⟩
  | .local _ .vmem, ⟨10, _⟩ => ⟨S2x1x1024x1024, .f32⟩
  | .local _ .vmem, ⟨11, _⟩ => ⟨S2x1x1024x1024, .f32⟩
  | .local _ .smem, ⟨0, _⟩ => ⟨S1, .i32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scoped0 : Ref sig .tc := ⟨.vmem, 9, rfl⟩
abbrev cc0_scoped2 : Ref sig .tc := ⟨.vmem, 10, rfl⟩
abbrev cc0_scoped4 : Ref sig .tc := ⟨.vmem, 11, rfl⟩
abbrev cc0_scratch4 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 : Fin 1 → Nat :=
  let c0_i32_23_r0 : BitVec 32 := 0#32
  let c2_i32_24_r0 : BitVec 32 := 2#32
  let v29_r0 : BitVec 32 := Scalar.remui c0_i32_23_r0 c2_i32_24_r0
  ![v29_r0.toNat]
def k0_off2 : Fin 4 → Nat :=
  let c0_i32_23_r0 : BitVec 32 := 0#32
  let c2_i32_24_r0 : BitVec 32 := 2#32
  let v29_r0 : BitVec 32 := Scalar.remui c0_i32_23_r0 c2_i32_24_r0
  let c0_i32_25_r0 : BitVec 32 := 0#32
  let c0_i32_26_r0 : BitVec 32 := 0#32
  let c0_i32_27_r0 : BitVec 32 := 0#32
  ![v29_r0.toNat, 0, 0, 0]
@[reducible] def k0_t1_loop : Scf.Loop 32 :=
  let c0_i32_57_r0 : BitVec 32 := 0#32
  let c64_i32_58_r0 : BitVec 32 := 64#32
  let v50_r0 : BitVec 32 := Scalar.addi c0_i32_57_r0 c64_i32_58_r0
  let c1_i32_59_r0 : BitVec 32 := 1#32
  ⟨c0_i32_57_r0, v50_r0, c1_i32_59_r0⟩
def k0_off3 (arg18_r0 : BitVec 32) : Fin 1 → Nat :=
  let c2_i32_182_r0 : BitVec 32 := 2#32
  let v234_r0 : BitVec 32 := Scalar.remui arg18_r0 c2_i32_182_r0
  ![v234_r0.toNat]
def k0_cond1 (k0_t1 : Fin k0_t1_loop.trips) (arg24_r0 : BitVec 32) : BitVec 1 :=
  let c0_i32_83_r0 : BitVec 32 := 0#32
  let v74_r0 : BitVec 32 := Scalar.addi arg24_r0 c0_i32_83_r0
  let true_90_r0 : BitVec 1 := 1#1
  let c1_i32_89_r0 : BitVec 32 := 1#32
  let v80_r0 : BitVec 32 := Scalar.addi arg24_r0 c1_i32_89_r0
  let v81_r0 : BitVec 32 := Scalar.select true_90_r0 v80_r0 arg24_r0
  let c64_i32_91_r0 : BitVec 32 := 64#32
  let v82_r0 : BitVec 1 := Scalar.cmpi .eq v81_r0 c64_i32_91_r0
  let c0_i32_92_r0 : BitVec 32 := 0#32
  let v83_r0 : BitVec 32 := Scalar.select v82_r0 c0_i32_92_r0 v81_r0
  let c0_i32_93_r0 : BitVec 32 := 0#32
  let v84_r0 : BitVec 32 := Scalar.addi v83_r0 c0_i32_93_r0
  let v90_r0 : BitVec 1 := Scalar.cmpi .ne v74_r0 v84_r0
  let c0_i32_57_r0 : BitVec 32 := 0#32
  let c1_i32_59_r0 : BitVec 32 := 1#32
  let arg17_r0 : BitVec 32 := Scf.iv c0_i32_57_r0 c1_i32_59_r0 k0_t1
  let c63_i32_99_r0 : BitVec 32 := 63#32
  let v91_r0 : BitVec 1 := Scalar.cmpi .sge arg17_r0 c63_i32_99_r0
  let true_100_r0 : BitVec 1 := 1#1
  let v92_r0 : BitVec 1 := Scalar.xori v91_r0 true_100_r0
  let v93_r0 : BitVec 1 := Scalar.andi v90_r0 v92_r0
  let true_101_r0 : BitVec 1 := 1#1
  let v94_r0 : BitVec 1 := Scalar.andi v93_r0 true_101_r0
  let v95_r0 : BitVec 32 := Scalar.extui v94_r0
  let c0_i32_102_r0 : BitVec 32 := 0#32
  let v96_r0 : BitVec 1 := Scalar.cmpi .ne v95_r0 c0_i32_102_r0
  v96_r0

def k0_off4 (arg18_r0 : BitVec 32) : Fin 4 → Nat :=
  let c2_i32_182_r0 : BitVec 32 := 2#32
  let v234_r0 : BitVec 32 := Scalar.remui arg18_r0 c2_i32_182_r0
  let c0_i32_184_r0 : BitVec 32 := 0#32
  let c0_i32_185_r0 : BitVec 32 := 0#32
  let c0_i32_186_r0 : BitVec 32 := 0#32
  ![v234_r0.toNat, 0, 0, 0]
def k0_off5 (arg24_r0 : BitVec 32) : Fin 3 → Nat :=
  let c1_i32_183_r0 : BitVec 32 := 1#32
  let true_90_r0 : BitVec 1 := 1#1
  let c1_i32_89_r0 : BitVec 32 := 1#32
  let v80_r0 : BitVec 32 := Scalar.addi arg24_r0 c1_i32_89_r0
  let v81_r0 : BitVec 32 := Scalar.select true_90_r0 v80_r0 arg24_r0
  let c64_i32_91_r0 : BitVec 32 := 64#32
  let v82_r0 : BitVec 1 := Scalar.cmpi .eq v81_r0 c64_i32_91_r0
  let c0_i32_92_r0 : BitVec 32 := 0#32
  let v83_r0 : BitVec 32 := Scalar.select v82_r0 c0_i32_92_r0 v81_r0
  let c0_i32_93_r0 : BitVec 32 := 0#32
  let v84_r0 : BitVec 32 := Scalar.addi v83_r0 c0_i32_93_r0
  let v235_r0 : BitVec 32 := Scalar.muli c1_i32_183_r0 v84_r0
  let c0_i32_187_r0 : BitVec 32 := 0#32
  let c0_i32_188_r0 : BitVec 32 := 0#32
  ![v235_r0.toNat, 0, 0]
def k0_off6 (arg20_r0 : BitVec 32) : Fin 1 → Nat :=
  let c2_i32_182_r0 : BitVec 32 := 2#32
  let v234_r0 : BitVec 32 := Scalar.remui arg20_r0 c2_i32_182_r0
  ![v234_r0.toNat]
def k0_cond2 (k0_t1 : Fin k0_t1_loop.trips) (arg24_r0 : BitVec 32) : BitVec 1 :=
  let c0_i32_83_r0 : BitVec 32 := 0#32
  let v74_r0 : BitVec 32 := Scalar.addi arg24_r0 c0_i32_83_r0
  let true_90_r0 : BitVec 1 := 1#1
  let c1_i32_89_r0 : BitVec 32 := 1#32
  let v80_r0 : BitVec 32 := Scalar.addi arg24_r0 c1_i32_89_r0
  let v81_r0 : BitVec 32 := Scalar.select true_90_r0 v80_r0 arg24_r0
  let c64_i32_91_r0 : BitVec 32 := 64#32
  let v82_r0 : BitVec 1 := Scalar.cmpi .eq v81_r0 c64_i32_91_r0
  let c0_i32_92_r0 : BitVec 32 := 0#32
  let v83_r0 : BitVec 32 := Scalar.select v82_r0 c0_i32_92_r0 v81_r0
  let c0_i32_93_r0 : BitVec 32 := 0#32
  let v84_r0 : BitVec 32 := Scalar.addi v83_r0 c0_i32_93_r0
  let v100_r0 : BitVec 1 := Scalar.cmpi .ne v74_r0 v84_r0
  let c0_i32_57_r0 : BitVec 32 := 0#32
  let c1_i32_59_r0 : BitVec 32 := 1#32
  let arg17_r0 : BitVec 32 := Scf.iv c0_i32_57_r0 c1_i32_59_r0 k0_t1
  let c63_i32_105_r0 : BitVec 32 := 63#32
  let v101_r0 : BitVec 1 := Scalar.cmpi .sge arg17_r0 c63_i32_105_r0
  let true_106_r0 : BitVec 1 := 1#1
  let v102_r0 : BitVec 1 := Scalar.xori v101_r0 true_106_r0
  let v103_r0 : BitVec 1 := Scalar.andi v100_r0 v102_r0
  let true_107_r0 : BitVec 1 := 1#1
  let v104_r0 : BitVec 1 := Scalar.andi v103_r0 true_107_r0
  let v105_r0 : BitVec 32 := Scalar.extui v104_r0
  let c0_i32_108_r0 : BitVec 32 := 0#32
  let v106_r0 : BitVec 1 := Scalar.cmpi .ne v105_r0 c0_i32_108_r0
  v106_r0

def k0_off7 (arg20_r0 : BitVec 32) : Fin 4 → Nat :=
  let c2_i32_182_r0 : BitVec 32 := 2#32
  let v234_r0 : BitVec 32 := Scalar.remui arg20_r0 c2_i32_182_r0
  let c0_i32_184_r0 : BitVec 32 := 0#32
  let c0_i32_185_r0 : BitVec 32 := 0#32
  let c0_i32_186_r0 : BitVec 32 := 0#32
  ![v234_r0.toNat, 0, 0, 0]
def k0_off8 (arg24_r0 : BitVec 32) : Fin 3 → Nat :=
  let c1_i32_183_r0 : BitVec 32 := 1#32
  let true_90_r0 : BitVec 1 := 1#1
  let c1_i32_89_r0 : BitVec 32 := 1#32
  let v80_r0 : BitVec 32 := Scalar.addi arg24_r0 c1_i32_89_r0
  let v81_r0 : BitVec 32 := Scalar.select true_90_r0 v80_r0 arg24_r0
  let c64_i32_91_r0 : BitVec 32 := 64#32
  let v82_r0 : BitVec 1 := Scalar.cmpi .eq v81_r0 c64_i32_91_r0
  let c0_i32_92_r0 : BitVec 32 := 0#32
  let v83_r0 : BitVec 32 := Scalar.select v82_r0 c0_i32_92_r0 v81_r0
  let c0_i32_93_r0 : BitVec 32 := 0#32
  let v84_r0 : BitVec 32 := Scalar.addi v83_r0 c0_i32_93_r0
  let v235_r0 : BitVec 32 := Scalar.muli c1_i32_183_r0 v84_r0
  let c0_i32_187_r0 : BitVec 32 := 0#32
  let c0_i32_188_r0 : BitVec 32 := 0#32
  ![v235_r0.toNat, 0, 0]
def k0_off9 (arg22_r0 : BitVec 32) : Fin 1 → Nat :=
  let c2_i32_182_r0 : BitVec 32 := 2#32
  let v234_r0 : BitVec 32 := Scalar.remui arg22_r0 c2_i32_182_r0
  ![v234_r0.toNat]
def k0_cond3 (k0_t1 : Fin k0_t1_loop.trips) (arg24_r0 : BitVec 32) : BitVec 1 :=
  let c0_i32_83_r0 : BitVec 32 := 0#32
  let v74_r0 : BitVec 32 := Scalar.addi arg24_r0 c0_i32_83_r0
  let true_90_r0 : BitVec 1 := 1#1
  let c1_i32_89_r0 : BitVec 32 := 1#32
  let v80_r0 : BitVec 32 := Scalar.addi arg24_r0 c1_i32_89_r0
  let v81_r0 : BitVec 32 := Scalar.select true_90_r0 v80_r0 arg24_r0
  let c64_i32_91_r0 : BitVec 32 := 64#32
  let v82_r0 : BitVec 1 := Scalar.cmpi .eq v81_r0 c64_i32_91_r0
  let c0_i32_92_r0 : BitVec 32 := 0#32
  let v83_r0 : BitVec 32 := Scalar.select v82_r0 c0_i32_92_r0 v81_r0
  let c0_i32_93_r0 : BitVec 32 := 0#32
  let v84_r0 : BitVec 32 := Scalar.addi v83_r0 c0_i32_93_r0
  let v110_r0 : BitVec 1 := Scalar.cmpi .ne v74_r0 v84_r0
  let c0_i32_57_r0 : BitVec 32 := 0#32
  let c1_i32_59_r0 : BitVec 32 := 1#32
  let arg17_r0 : BitVec 32 := Scf.iv c0_i32_57_r0 c1_i32_59_r0 k0_t1
  let c63_i32_111_r0 : BitVec 32 := 63#32
  let v111_r0 : BitVec 1 := Scalar.cmpi .sge arg17_r0 c63_i32_111_r0
  let true_112_r0 : BitVec 1 := 1#1
  let v112_r0 : BitVec 1 := Scalar.xori v111_r0 true_112_r0
  let v113_r0 : BitVec 1 := Scalar.andi v110_r0 v112_r0
  let true_113_r0 : BitVec 1 := 1#1
  let v114_r0 : BitVec 1 := Scalar.andi v113_r0 true_113_r0
  let v115_r0 : BitVec 32 := Scalar.extui v114_r0
  let c0_i32_114_r0 : BitVec 32 := 0#32
  let v116_r0 : BitVec 1 := Scalar.cmpi .ne v115_r0 c0_i32_114_r0
  v116_r0

def k0_off10 (arg22_r0 : BitVec 32) : Fin 4 → Nat :=
  let c2_i32_182_r0 : BitVec 32 := 2#32
  let v234_r0 : BitVec 32 := Scalar.remui arg22_r0 c2_i32_182_r0
  let c0_i32_184_r0 : BitVec 32 := 0#32
  let c0_i32_185_r0 : BitVec 32 := 0#32
  let c0_i32_186_r0 : BitVec 32 := 0#32
  ![v234_r0.toNat, 0, 0, 0]
def k0_off11 (arg24_r0 : BitVec 32) : Fin 3 → Nat :=
  let c1_i32_183_r0 : BitVec 32 := 1#32
  let true_90_r0 : BitVec 1 := 1#1
  let c1_i32_89_r0 : BitVec 32 := 1#32
  let v80_r0 : BitVec 32 := Scalar.addi arg24_r0 c1_i32_89_r0
  let v81_r0 : BitVec 32 := Scalar.select true_90_r0 v80_r0 arg24_r0
  let c64_i32_91_r0 : BitVec 32 := 64#32
  let v82_r0 : BitVec 1 := Scalar.cmpi .eq v81_r0 c64_i32_91_r0
  let c0_i32_92_r0 : BitVec 32 := 0#32
  let v83_r0 : BitVec 32 := Scalar.select v82_r0 c0_i32_92_r0 v81_r0
  let c0_i32_93_r0 : BitVec 32 := 0#32
  let v84_r0 : BitVec 32 := Scalar.addi v83_r0 c0_i32_93_r0
  let v235_r0 : BitVec 32 := Scalar.muli c1_i32_183_r0 v84_r0
  let c0_i32_187_r0 : BitVec 32 := 0#32
  let c0_i32_188_r0 : BitVec 32 := 0#32
  ![v235_r0.toNat, 0, 0]
def k0_off12 (arg19_r0 : BitVec 32) : Fin 1 → Nat :=
  let c2_i32_183_r0 : BitVec 32 := 2#32
  let v235_r0 : BitVec 32 := Scalar.remui arg19_r0 c2_i32_183_r0
  ![v235_r0.toNat]
def k0_cond4 (k0_t1 : Fin k0_t1_loop.trips) (arg24_r0 : BitVec 32) : BitVec 1 :=
  let c0_i32_83_r0 : BitVec 32 := 0#32
  let v74_r0 : BitVec 32 := Scalar.addi arg24_r0 c0_i32_83_r0
  let true_85_r0 : BitVec 1 := 1#1
  let c1_i32_84_r0 : BitVec 32 := 1#32
  let v75_r0 : BitVec 32 := Scalar.subi arg24_r0 c1_i32_84_r0
  let v76_r0 : BitVec 32 := Scalar.select true_85_r0 v75_r0 arg24_r0
  let c_m1_i32_86_r0 : BitVec 32 := 4294967295#32
  let v77_r0 : BitVec 1 := Scalar.cmpi .eq v76_r0 c_m1_i32_86_r0
  let c63_i32_87_r0 : BitVec 32 := 63#32
  let v78_r0 : BitVec 32 := Scalar.select v77_r0 c63_i32_87_r0 v76_r0
  let c0_i32_88_r0 : BitVec 32 := 0#32
  let v79_r0 : BitVec 32 := Scalar.addi v78_r0 c0_i32_88_r0
  let v120_r0 : BitVec 1 := Scalar.cmpi .ne v74_r0 v79_r0
  let c0_i32_57_r0 : BitVec 32 := 0#32
  let c1_i32_59_r0 : BitVec 32 := 1#32
  let arg17_r0 : BitVec 32 := Scf.iv c0_i32_57_r0 c1_i32_59_r0 k0_t1
  let c0_i32_81_r0 : BitVec 32 := 0#32
  let v72_r0 : BitVec 1 := Scalar.cmpi .eq arg17_r0 c0_i32_81_r0
  let v121_r0 : BitVec 1 := Scalar.ori v120_r0 v72_r0
  let c0_i32_117_r0 : BitVec 32 := 0#32
  let v122_r0 : BitVec 1 := Scalar.cmpi .sge arg17_r0 c0_i32_117_r0
  let v123_r0 : BitVec 1 := Scalar.andi v121_r0 v122_r0
  let v124_r0 : BitVec 32 := Scalar.extui v123_r0
  let c0_i32_118_r0 : BitVec 32 := 0#32
  let v125_r0 : BitVec 1 := Scalar.cmpi .ne v124_r0 c0_i32_118_r0
  v125_r0

def k0_off13 (arg19_r0 : BitVec 32) : Fin 4 → Nat :=
  let c2_i32_183_r0 : BitVec 32 := 2#32
  let v235_r0 : BitVec 32 := Scalar.remui arg19_r0 c2_i32_183_r0
  let c0_i32_184_r0 : BitVec 32 := 0#32
  let c0_i32_185_r0 : BitVec 32 := 0#32
  let c0_i32_186_r0 : BitVec 32 := 0#32
  ![v235_r0.toNat, 0, 0, 0]
def k0_off14 (arg24_r0 : BitVec 32) : Fin 3 → Nat :=
  let c1_i32_182_r0 : BitVec 32 := 1#32
  let c0_i32_83_r0 : BitVec 32 := 0#32
  let v74_r0 : BitVec 32 := Scalar.addi arg24_r0 c0_i32_83_r0
  let v234_r0 : BitVec 32 := Scalar.muli c1_i32_182_r0 v74_r0
  let c0_i32_187_r0 : BitVec 32 := 0#32
  let c0_i32_188_r0 : BitVec 32 := 0#32
  ![v234_r0.toNat, 0, 0]
def k0_off15 (arg21_r0 : BitVec 32) : Fin 1 → Nat :=
  let c2_i32_183_r0 : BitVec 32 := 2#32
  let v235_r0 : BitVec 32 := Scalar.remui arg21_r0 c2_i32_183_r0
  ![v235_r0.toNat]
def k0_cond5 (k0_t1 : Fin k0_t1_loop.trips) (arg24_r0 : BitVec 32) : BitVec 1 :=
  let c0_i32_83_r0 : BitVec 32 := 0#32
  let v74_r0 : BitVec 32 := Scalar.addi arg24_r0 c0_i32_83_r0
  let true_85_r0 : BitVec 1 := 1#1
  let c1_i32_84_r0 : BitVec 32 := 1#32
  let v75_r0 : BitVec 32 := Scalar.subi arg24_r0 c1_i32_84_r0
  let v76_r0 : BitVec 32 := Scalar.select true_85_r0 v75_r0 arg24_r0
  let c_m1_i32_86_r0 : BitVec 32 := 4294967295#32
  let v77_r0 : BitVec 1 := Scalar.cmpi .eq v76_r0 c_m1_i32_86_r0
  let c63_i32_87_r0 : BitVec 32 := 63#32
  let v78_r0 : BitVec 32 := Scalar.select v77_r0 c63_i32_87_r0 v76_r0
  let c0_i32_88_r0 : BitVec 32 := 0#32
  let v79_r0 : BitVec 32 := Scalar.addi v78_r0 c0_i32_88_r0
  let v126_r0 : BitVec 1 := Scalar.cmpi .ne v74_r0 v79_r0
  let c0_i32_57_r0 : BitVec 32 := 0#32
  let c1_i32_59_r0 : BitVec 32 := 1#32
  let arg17_r0 : BitVec 32 := Scf.iv c0_i32_57_r0 c1_i32_59_r0 k0_t1
  let c0_i32_81_r0 : BitVec 32 := 0#32
  let v72_r0 : BitVec 1 := Scalar.cmpi .eq arg17_r0 c0_i32_81_r0
  let v127_r0 : BitVec 1 := Scalar.ori v126_r0 v72_r0
  let c0_i32_119_r0 : BitVec 32 := 0#32
  let v128_r0 : BitVec 1 := Scalar.cmpi .sge arg17_r0 c0_i32_119_r0
  let v129_r0 : BitVec 1 := Scalar.andi v127_r0 v128_r0
  let v130_r0 : BitVec 32 := Scalar.extui v129_r0
  let c0_i32_120_r0 : BitVec 32 := 0#32
  let v131_r0 : BitVec 1 := Scalar.cmpi .ne v130_r0 c0_i32_120_r0
  v131_r0

def k0_off16 (arg21_r0 : BitVec 32) : Fin 4 → Nat :=
  let c2_i32_183_r0 : BitVec 32 := 2#32
  let v235_r0 : BitVec 32 := Scalar.remui arg21_r0 c2_i32_183_r0
  let c0_i32_184_r0 : BitVec 32 := 0#32
  let c0_i32_185_r0 : BitVec 32 := 0#32
  let c0_i32_186_r0 : BitVec 32 := 0#32
  ![v235_r0.toNat, 0, 0, 0]
def k0_off17 (arg24_r0 : BitVec 32) : Fin 3 → Nat :=
  let c1_i32_182_r0 : BitVec 32 := 1#32
  let c0_i32_83_r0 : BitVec 32 := 0#32
  let v74_r0 : BitVec 32 := Scalar.addi arg24_r0 c0_i32_83_r0
  let v234_r0 : BitVec 32 := Scalar.muli c1_i32_182_r0 v74_r0
  let c0_i32_187_r0 : BitVec 32 := 0#32
  let c0_i32_188_r0 : BitVec 32 := 0#32
  ![v234_r0.toNat, 0, 0]
def k0_off18 (arg23_r0 : BitVec 32) : Fin 1 → Nat :=
  let c2_i32_183_r0 : BitVec 32 := 2#32
  let v235_r0 : BitVec 32 := Scalar.remui arg23_r0 c2_i32_183_r0
  ![v235_r0.toNat]
def k0_cond6 (k0_t1 : Fin k0_t1_loop.trips) (arg24_r0 : BitVec 32) : BitVec 1 :=
  let c0_i32_83_r0 : BitVec 32 := 0#32
  let v74_r0 : BitVec 32 := Scalar.addi arg24_r0 c0_i32_83_r0
  let true_85_r0 : BitVec 1 := 1#1
  let c1_i32_84_r0 : BitVec 32 := 1#32
  let v75_r0 : BitVec 32 := Scalar.subi arg24_r0 c1_i32_84_r0
  let v76_r0 : BitVec 32 := Scalar.select true_85_r0 v75_r0 arg24_r0
  let c_m1_i32_86_r0 : BitVec 32 := 4294967295#32
  let v77_r0 : BitVec 1 := Scalar.cmpi .eq v76_r0 c_m1_i32_86_r0
  let c63_i32_87_r0 : BitVec 32 := 63#32
  let v78_r0 : BitVec 32 := Scalar.select v77_r0 c63_i32_87_r0 v76_r0
  let c0_i32_88_r0 : BitVec 32 := 0#32
  let v79_r0 : BitVec 32 := Scalar.addi v78_r0 c0_i32_88_r0
  let v132_r0 : BitVec 1 := Scalar.cmpi .ne v74_r0 v79_r0
  let c0_i32_57_r0 : BitVec 32 := 0#32
  let c1_i32_59_r0 : BitVec 32 := 1#32
  let arg17_r0 : BitVec 32 := Scf.iv c0_i32_57_r0 c1_i32_59_r0 k0_t1
  let c0_i32_81_r0 : BitVec 32 := 0#32
  let v72_r0 : BitVec 1 := Scalar.cmpi .eq arg17_r0 c0_i32_81_r0
  let v133_r0 : BitVec 1 := Scalar.ori v132_r0 v72_r0
  let c0_i32_121_r0 : BitVec 32 := 0#32
  let v134_r0 : BitVec 1 := Scalar.cmpi .sge arg17_r0 c0_i32_121_r0
  let v135_r0 : BitVec 1 := Scalar.andi v133_r0 v134_r0
  let v136_r0 : BitVec 32 := Scalar.extui v135_r0
  let c0_i32_122_r0 : BitVec 32 := 0#32
  let v137_r0 : BitVec 1 := Scalar.cmpi .ne v136_r0 c0_i32_122_r0
  v137_r0

def k0_off19 (arg23_r0 : BitVec 32) : Fin 4 → Nat :=
  let c2_i32_183_r0 : BitVec 32 := 2#32
  let v235_r0 : BitVec 32 := Scalar.remui arg23_r0 c2_i32_183_r0
  let c0_i32_184_r0 : BitVec 32 := 0#32
  let c0_i32_185_r0 : BitVec 32 := 0#32
  let c0_i32_186_r0 : BitVec 32 := 0#32
  ![v235_r0.toNat, 0, 0, 0]
def k0_off20 (arg24_r0 : BitVec 32) : Fin 3 → Nat :=
  let c1_i32_182_r0 : BitVec 32 := 1#32
  let c0_i32_83_r0 : BitVec 32 := 0#32
  let v74_r0 : BitVec 32 := Scalar.addi arg24_r0 c0_i32_83_r0
  let v234_r0 : BitVec 32 := Scalar.muli c1_i32_182_r0 v74_r0
  let c0_i32_187_r0 : BitVec 32 := 0#32
  let c0_i32_188_r0 : BitVec 32 := 0#32
  ![v234_r0.toNat, 0, 0]

def k0_chk1 (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) : Prop :=
  (∀ (k0_h1 : k0_cond1 k0_t1 arg24_r0 = 1#1), ∀ a, (k0_off3 arg18_r0) a + S1.size a ≤ S2.size a) ∧
  (∀ (k0_h1 : k0_cond1 k0_t1 arg24_r0 = 1#1), ∀ a, (k0_off4 arg18_r0) a + S1x1x1024x1024.size a ≤ S2x1x1024x1024.size a) ∧
  (∀ (k0_h1 : k0_cond1 k0_t1 arg24_r0 = 1#1), ∀ a, (k0_off5 arg24_r0) a + S1x1024x1024.size a ≤ S64x1024x1024.size a) ∧
  (∀ (k0_h2 : k0_cond2 k0_t1 arg24_r0 = 1#1), ∀ a, (k0_off6 arg20_r0) a + S1.size a ≤ S2.size a) ∧
  (∀ (k0_h2 : k0_cond2 k0_t1 arg24_r0 = 1#1), ∀ a, (k0_off7 arg20_r0) a + S1x1x1024x1024.size a ≤ S2x1x1024x1024.size a) ∧
  (∀ (k0_h2 : k0_cond2 k0_t1 arg24_r0 = 1#1), ∀ a, (k0_off8 arg24_r0) a + S1x1024x1024.size a ≤ S64x1024x1024.size a) ∧
  (∀ (k0_h3 : k0_cond3 k0_t1 arg24_r0 = 1#1), ∀ a, (k0_off9 arg22_r0) a + S1.size a ≤ S2.size a) ∧
  (∀ (k0_h3 : k0_cond3 k0_t1 arg24_r0 = 1#1), ∀ a, (k0_off10 arg22_r0) a + S1x1x1024x1024.size a ≤ S2x1x1024x1024.size a) ∧
  (∀ (k0_h3 : k0_cond3 k0_t1 arg24_r0 = 1#1), ∀ a, (k0_off11 arg24_r0) a + S1x1024x1024.size a ≤ S64x1024x1024.size a) ∧
  (∀ (k0_h4 : k0_cond4 k0_t1 arg24_r0 = 1#1), ∀ a, (k0_off12 arg19_r0) a + S1.size a ≤ S2.size a) ∧
  (∀ (k0_h4 : k0_cond4 k0_t1 arg24_r0 = 1#1), ∀ a, (k0_off13 arg19_r0) a + S1x1x1024x1024.size a ≤ S2x1x1024x1024.size a) ∧
  (∀ (k0_h4 : k0_cond4 k0_t1 arg24_r0 = 1#1), ∀ a, (k0_off14 arg24_r0) a + S1x1024x1024.size a ≤ S64x1024x1024.size a) ∧
  (∀ (k0_h5 : k0_cond5 k0_t1 arg24_r0 = 1#1), ∀ a, (k0_off15 arg21_r0) a + S1.size a ≤ S2.size a) ∧
  (∀ (k0_h5 : k0_cond5 k0_t1 arg24_r0 = 1#1), ∀ a, (k0_off16 arg21_r0) a + S1x1x1024x1024.size a ≤ S2x1x1024x1024.size a) ∧
  (∀ (k0_h5 : k0_cond5 k0_t1 arg24_r0 = 1#1), ∀ a, (k0_off17 arg24_r0) a + S1x1024x1024.size a ≤ S64x1024x1024.size a) ∧
  (∀ (k0_h6 : k0_cond6 k0_t1 arg24_r0 = 1#1), ∀ a, (k0_off18 arg23_r0) a + S1.size a ≤ S2.size a) ∧
  (∀ (k0_h6 : k0_cond6 k0_t1 arg24_r0 = 1#1), ∀ a, (k0_off19 arg23_r0) a + S1x1x1024x1024.size a ≤ S2x1x1024x1024.size a) ∧
  (∀ (k0_h6 : k0_cond6 k0_t1 arg24_r0 = 1#1), ∀ a, (k0_off20 arg24_r0) a + S1x1024x1024.size a ≤ S64x1024x1024.size a)
theorem k0_off3_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h1 : k0_cond1 k0_t1 arg24_r0 = 1#1), ∀ a, (k0_off3 arg18_r0) a + S1.size a ≤ S2.size a := fun k0_t1 arg18_r0 arg19_r0 arg20_r0 arg21_r0 arg22_r0 arg23_r0 arg24_r0 k0_hw1 k0_h1 => k0_hw1.1 k0_h1
theorem k0_off4_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h1 : k0_cond1 k0_t1 arg24_r0 = 1#1), ∀ a, (k0_off4 arg18_r0) a + S1x1x1024x1024.size a ≤ S2x1x1024x1024.size a := fun k0_t1 arg18_r0 arg19_r0 arg20_r0 arg21_r0 arg22_r0 arg23_r0 arg24_r0 k0_hw1 k0_h1 => k0_hw1.2.1 k0_h1
theorem k0_off5_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h1 : k0_cond1 k0_t1 arg24_r0 = 1#1), ∀ a, (k0_off5 arg24_r0) a + S1x1024x1024.size a ≤ S64x1024x1024.size a := fun k0_t1 arg18_r0 arg19_r0 arg20_r0 arg21_r0 arg22_r0 arg23_r0 arg24_r0 k0_hw1 k0_h1 => k0_hw1.2.2.1 k0_h1
theorem k0_off6_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h2 : k0_cond2 k0_t1 arg24_r0 = 1#1), ∀ a, (k0_off6 arg20_r0) a + S1.size a ≤ S2.size a := fun k0_t1 arg18_r0 arg19_r0 arg20_r0 arg21_r0 arg22_r0 arg23_r0 arg24_r0 k0_hw1 k0_h2 => k0_hw1.2.2.2.1 k0_h2
theorem k0_off7_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h2 : k0_cond2 k0_t1 arg24_r0 = 1#1), ∀ a, (k0_off7 arg20_r0) a + S1x1x1024x1024.size a ≤ S2x1x1024x1024.size a := fun k0_t1 arg18_r0 arg19_r0 arg20_r0 arg21_r0 arg22_r0 arg23_r0 arg24_r0 k0_hw1 k0_h2 => k0_hw1.2.2.2.2.1 k0_h2
theorem k0_off8_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h2 : k0_cond2 k0_t1 arg24_r0 = 1#1), ∀ a, (k0_off8 arg24_r0) a + S1x1024x1024.size a ≤ S64x1024x1024.size a := fun k0_t1 arg18_r0 arg19_r0 arg20_r0 arg21_r0 arg22_r0 arg23_r0 arg24_r0 k0_hw1 k0_h2 => k0_hw1.2.2.2.2.2.1 k0_h2
theorem k0_off9_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h3 : k0_cond3 k0_t1 arg24_r0 = 1#1), ∀ a, (k0_off9 arg22_r0) a + S1.size a ≤ S2.size a := fun k0_t1 arg18_r0 arg19_r0 arg20_r0 arg21_r0 arg22_r0 arg23_r0 arg24_r0 k0_hw1 k0_h3 => k0_hw1.2.2.2.2.2.2.1 k0_h3
theorem k0_off10_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h3 : k0_cond3 k0_t1 arg24_r0 = 1#1), ∀ a, (k0_off10 arg22_r0) a + S1x1x1024x1024.size a ≤ S2x1x1024x1024.size a := fun k0_t1 arg18_r0 arg19_r0 arg20_r0 arg21_r0 arg22_r0 arg23_r0 arg24_r0 k0_hw1 k0_h3 => k0_hw1.2.2.2.2.2.2.2.1 k0_h3
theorem k0_off11_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h3 : k0_cond3 k0_t1 arg24_r0 = 1#1), ∀ a, (k0_off11 arg24_r0) a + S1x1024x1024.size a ≤ S64x1024x1024.size a := fun k0_t1 arg18_r0 arg19_r0 arg20_r0 arg21_r0 arg22_r0 arg23_r0 arg24_r0 k0_hw1 k0_h3 => k0_hw1.2.2.2.2.2.2.2.2.1 k0_h3
theorem k0_off12_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h4 : k0_cond4 k0_t1 arg24_r0 = 1#1), ∀ a, (k0_off12 arg19_r0) a + S1.size a ≤ S2.size a := fun k0_t1 arg18_r0 arg19_r0 arg20_r0 arg21_r0 arg22_r0 arg23_r0 arg24_r0 k0_hw1 k0_h4 => k0_hw1.2.2.2.2.2.2.2.2.2.1 k0_h4
theorem k0_off13_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h4 : k0_cond4 k0_t1 arg24_r0 = 1#1), ∀ a, (k0_off13 arg19_r0) a + S1x1x1024x1024.size a ≤ S2x1x1024x1024.size a := fun k0_t1 arg18_r0 arg19_r0 arg20_r0 arg21_r0 arg22_r0 arg23_r0 arg24_r0 k0_hw1 k0_h4 => k0_hw1.2.2.2.2.2.2.2.2.2.2.1 k0_h4
theorem k0_off14_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h4 : k0_cond4 k0_t1 arg24_r0 = 1#1), ∀ a, (k0_off14 arg24_r0) a + S1x1024x1024.size a ≤ S64x1024x1024.size a := fun k0_t1 arg18_r0 arg19_r0 arg20_r0 arg21_r0 arg22_r0 arg23_r0 arg24_r0 k0_hw1 k0_h4 => k0_hw1.2.2.2.2.2.2.2.2.2.2.2.1 k0_h4
theorem k0_off15_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h5 : k0_cond5 k0_t1 arg24_r0 = 1#1), ∀ a, (k0_off15 arg21_r0) a + S1.size a ≤ S2.size a := fun k0_t1 arg18_r0 arg19_r0 arg20_r0 arg21_r0 arg22_r0 arg23_r0 arg24_r0 k0_hw1 k0_h5 => k0_hw1.2.2.2.2.2.2.2.2.2.2.2.2.1 k0_h5
theorem k0_off16_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h5 : k0_cond5 k0_t1 arg24_r0 = 1#1), ∀ a, (k0_off16 arg21_r0) a + S1x1x1024x1024.size a ≤ S2x1x1024x1024.size a := fun k0_t1 arg18_r0 arg19_r0 arg20_r0 arg21_r0 arg22_r0 arg23_r0 arg24_r0 k0_hw1 k0_h5 => k0_hw1.2.2.2.2.2.2.2.2.2.2.2.2.2.1 k0_h5
theorem k0_off17_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h5 : k0_cond5 k0_t1 arg24_r0 = 1#1), ∀ a, (k0_off17 arg24_r0) a + S1x1024x1024.size a ≤ S64x1024x1024.size a := fun k0_t1 arg18_r0 arg19_r0 arg20_r0 arg21_r0 arg22_r0 arg23_r0 arg24_r0 k0_hw1 k0_h5 => k0_hw1.2.2.2.2.2.2.2.2.2.2.2.2.2.2.1 k0_h5
theorem k0_off18_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h6 : k0_cond6 k0_t1 arg24_r0 = 1#1), ∀ a, (k0_off18 arg23_r0) a + S1.size a ≤ S2.size a := fun k0_t1 arg18_r0 arg19_r0 arg20_r0 arg21_r0 arg22_r0 arg23_r0 arg24_r0 k0_hw1 k0_h6 => k0_hw1.2.2.2.2.2.2.2.2.2.2.2.2.2.2.2.1 k0_h6
theorem k0_off19_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h6 : k0_cond6 k0_t1 arg24_r0 = 1#1), ∀ a, (k0_off19 arg23_r0) a + S1x1x1024x1024.size a ≤ S2x1x1024x1024.size a := fun k0_t1 arg18_r0 arg19_r0 arg20_r0 arg21_r0 arg22_r0 arg23_r0 arg24_r0 k0_hw1 k0_h6 => k0_hw1.2.2.2.2.2.2.2.2.2.2.2.2.2.2.2.2.1 k0_h6
theorem k0_off20_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h6 : k0_cond6 k0_t1 arg24_r0 = 1#1), ∀ a, (k0_off20 arg24_r0) a + S1x1024x1024.size a ≤ S64x1024x1024.size a := fun k0_t1 arg18_r0 arg19_r0 arg20_r0 arg21_r0 arg22_r0 arg23_r0 arg24_r0 k0_hw1 k0_h6 => k0_hw1.2.2.2.2.2.2.2.2.2.2.2.2.2.2.2.2.2 k0_h6

def k0_off21 (arg19_r0 : BitVec 32) : Fin 4 → Nat :=
  let c2_i32_123_r0 : BitVec 32 := 2#32
  let v138_r0 : BitVec 32 := Scalar.remui arg19_r0 c2_i32_123_r0
  let c0_i32_131_r0 : BitVec 32 := 0#32
  let c0_i32_132_r0 : BitVec 32 := 0#32
  let c0_i32_133_r0 : BitVec 32 := 0#32
  ![v138_r0.toNat, 0, 0, 0]

def k0_chk2 (arg19_r0 : BitVec 32) : Prop :=
  (∀ a, (k0_off21 arg19_r0) a + S1x1x1024x1024.size a ≤ S2x1x1024x1024.size a)
theorem k0_off21_inb : ∀ (arg19_r0 : BitVec 32) (k0_hw2 : k0_chk2 arg19_r0), ∀ a, (k0_off21 arg19_r0) a + S1x1x1024x1024.size a ≤ S2x1x1024x1024.size a := fun arg19_r0 k0_hw2 => k0_hw2

def k0_off22 (arg21_r0 : BitVec 32) : Fin 4 → Nat :=
  let c2_i32_124_r0 : BitVec 32 := 2#32
  let v139_r0 : BitVec 32 := Scalar.remui arg21_r0 c2_i32_124_r0
  let c0_i32_137_r0 : BitVec 32 := 0#32
  let c0_i32_138_r0 : BitVec 32 := 0#32
  let c0_i32_139_r0 : BitVec 32 := 0#32
  ![v139_r0.toNat, 0, 0, 0]

def k0_chk3 (arg21_r0 : BitVec 32) : Prop :=
  (∀ a, (k0_off22 arg21_r0) a + S1x1x1024x1024.size a ≤ S2x1x1024x1024.size a)
theorem k0_off22_inb : ∀ (arg21_r0 : BitVec 32) (k0_hw3 : k0_chk3 arg21_r0), ∀ a, (k0_off22 arg21_r0) a + S1x1x1024x1024.size a ≤ S2x1x1024x1024.size a := fun arg21_r0 k0_hw3 => k0_hw3

def k0_off23 (arg23_r0 : BitVec 32) : Fin 4 → Nat :=
  let c2_i32_125_r0 : BitVec 32 := 2#32
  let v140_r0 : BitVec 32 := Scalar.remui arg23_r0 c2_i32_125_r0
  let c0_i32_143_r0 : BitVec 32 := 0#32
  let c0_i32_144_r0 : BitVec 32 := 0#32
  let c0_i32_145_r0 : BitVec 32 := 0#32
  ![v140_r0.toNat, 0, 0, 0]

def k0_chk4 (arg23_r0 : BitVec 32) : Prop :=
  (∀ a, (k0_off23 arg23_r0) a + S1x1x1024x1024.size a ≤ S2x1x1024x1024.size a)
theorem k0_off23_inb : ∀ (arg23_r0 : BitVec 32) (k0_hw4 : k0_chk4 arg23_r0), ∀ a, (k0_off23 arg23_r0) a + S1x1x1024x1024.size a ≤ S2x1x1024x1024.size a := fun arg23_r0 k0_hw4 => k0_hw4

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S128x1x1024 : Shape := ⟨3, ![128, 1, 1024]⟩
abbrev S1024x64 : Shape := ⟨2, ![1024, 64]⟩
abbrev S64x1024x1024 : Shape := ⟨3, ![64, 1024, 1024]⟩
abbrev S1024x1024 : Shape := ⟨2, ![1024, 1024]⟩
abbrev S1024x1 : Shape := ⟨2, ![1024, 1]⟩
abbrev S128x1024 : Shape := ⟨2, ![128, 1024]⟩
abbrev S128x64 : Shape := ⟨2, ![128, 64]⟩
abbrev S_ : Shape := ⟨0, ![]⟩
abbrev S128 : Shape := ⟨1, ![128]⟩
abbrev S128x1 : Shape := ⟨2, ![128, 1]⟩
abbrev S128x8 : Shape := ⟨2, ![128, 8]⟩
abbrev S128x8x1 : Shape := ⟨3, ![128, 8, 1]⟩
abbrev S128x8x2 : Shape := ⟨3, ![128, 8, 2]⟩
abbrev S128x64x1024 : Shape := ⟨3, ![128, 64, 1024]⟩
abbrev S64x1024x128 : Shape := ⟨3, ![64, 1024, 128]⟩
abbrev S64 : Shape := ⟨1, ![64]⟩

abbrev nBuf : Space → Nat
  | .hbm => 118
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024x64, .f32⟩
  | .hbm, ⟨2, _⟩ => ⟨S64x1024x1024, .f32⟩
  | .hbm, ⟨3, _⟩ => ⟨S64x1024x1024, .f32⟩
  | .hbm, ⟨4, _⟩ => ⟨S64x1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1, .f32⟩
  | .hbm, ⟨9, _⟩ => ⟨S128x1024, .f32⟩
  | .hbm, ⟨10, _⟩ => ⟨S128x64, .f32⟩
  | .hbm, ⟨11, _⟩ => ⟨S_, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128x1, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S_, .f32⟩
  | .hbm, ⟨21, _⟩ => ⟨S128, .f32⟩
  | .hbm, ⟨22, _⟩ => ⟨S128x1, .f32⟩
  | .hbm, ⟨23, _⟩ => ⟨S128x64, .f32⟩
  | .hbm, ⟨24, _⟩ => ⟨S128x64, .f32⟩
  | .hbm, ⟨25, _⟩ => ⟨S128x8, .f32⟩
  | .hbm, ⟨26, _⟩ => ⟨S128x8, .i32⟩
  | .hbm, ⟨27, _⟩ => ⟨S_, .f32⟩
  | .hbm, ⟨28, _⟩ => ⟨S128x64, .f32⟩
  | .hbm, ⟨29, _⟩ => ⟨S128, .i32⟩
  | .hbm, ⟨30, _⟩ => ⟨S128x1, .i32⟩
  | .hbm, ⟨31, _⟩ => ⟨S_, .i32⟩
  | .hbm, ⟨32, _⟩ => ⟨S128x1, .i32⟩
  | .hbm, ⟨33, _⟩ => ⟨S128x1, .i1⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x1, .i32⟩
  | .hbm, ⟨38, _⟩ => ⟨S_, .i32⟩
  | .hbm, ⟨39, _⟩ => ⟨S128x8, .i32⟩
  | .hbm, ⟨40, _⟩ => ⟨S128x8, .i1⟩
  | .hbm, ⟨41, _⟩ => ⟨S_, .i32⟩
  | .hbm, ⟨42, _⟩ => ⟨S128x8, .i32⟩
  | .hbm, ⟨43, _⟩ => ⟨S128x8, .i32⟩
  | .hbm, ⟨44, _⟩ => ⟨S128x8, .i32⟩
  | .hbm, ⟨45, _⟩ => ⟨S128x8, .i32⟩
  | .hbm, ⟨46, _⟩ => ⟨S128x8x1, .i32⟩
  | .hbm, ⟨47, _⟩ => ⟨S128x8x1, .i32⟩
  | .hbm, ⟨48, _⟩ => ⟨S128x8x2, .i32⟩
  | .hbm, ⟨49, _⟩ => ⟨S128x64, .f32⟩
  | .hbm, ⟨50, _⟩ => ⟨S128x64x1024, .f32⟩
  | .hbm, ⟨51, _⟩ => ⟨S128x64x1024, .f32⟩
  | .hbm, ⟨52, _⟩ => ⟨S128x64x1024, .f32⟩
  | .hbm, ⟨53, _⟩ => ⟨S128x64x1024, .f32⟩
  | .hbm, ⟨54, _⟩ => ⟨S_, .f32⟩
  | .hbm, ⟨55, _⟩ => ⟨S128x64x1024, .f32⟩
  | .hbm, ⟨56, _⟩ => ⟨S128x64x1024, .f32⟩
  | .hbm, ⟨57, _⟩ => ⟨S_, .f32⟩
  | .hbm, ⟨58, _⟩ => ⟨S128x64x1024, .f32⟩
  | .hbm, ⟨59, _⟩ => ⟨S128x64x1024, .f32⟩
  | .hbm, ⟨60, _⟩ => ⟨S128x64x1024, .f32⟩
  | .hbm, ⟨61, _⟩ => ⟨S128x64x1024, .f32⟩
  | .hbm, ⟨62, _⟩ => ⟨S64x1024x128, .f32⟩
  | .hbm, ⟨63, _⟩ => ⟨S128x64x1024, .f32⟩
  | .hbm, ⟨64, _⟩ => ⟨S128x1024, .f32⟩
  | .hbm, ⟨65, _⟩ => ⟨S128x1024, .f32⟩
  | .hbm, ⟨66, _⟩ => ⟨S128x1024, .f32⟩
  | .hbm, ⟨67, _⟩ => ⟨S128x1024, .f32⟩
  | .hbm, ⟨68, _⟩ => ⟨S_, .f32⟩
  | .hbm, ⟨69, _⟩ => ⟨S128x1024, .f32⟩
  | .hbm, ⟨70, _⟩ => ⟨S128x1024, .f32⟩
  | .hbm, ⟨71, _⟩ => ⟨S_, .f32⟩
  | .hbm, ⟨72, _⟩ => ⟨S128x1024, .f32⟩
  | .hbm, ⟨73, _⟩ => ⟨S128x1024, .f32⟩
  | .hbm, ⟨74, _⟩ => ⟨S128x1024, .f32⟩
  | .hbm, ⟨75, _⟩ => ⟨S128x1024, .f32⟩
  | .hbm, ⟨76, _⟩ => ⟨S128x1024, .f32⟩
  | .hbm, ⟨77, _⟩ => ⟨S128x1024, .f32⟩
  | .hbm, ⟨78, _⟩ => ⟨S128x1, .f32⟩
  | .hbm, ⟨79, _⟩ => ⟨S128x1, .f32⟩
  | .hbm, ⟨80, _⟩ => ⟨S128x1, .f32⟩
  | .hbm, ⟨81, _⟩ => ⟨S_, .f32⟩
  | .hbm, ⟨82, _⟩ => ⟨S128x1, .f32⟩
  | .hbm, ⟨83, _⟩ => ⟨S128x1, .f32⟩
  | .hbm, ⟨84, _⟩ => ⟨S_, .f32⟩
  | .hbm, ⟨85, _⟩ => ⟨S128x1, .f32⟩
  | .hbm, ⟨86, _⟩ => ⟨S128x1, .f32⟩
  | .hbm, ⟨87, _⟩ => ⟨S128x1024, .f32⟩
  | .hbm, ⟨88, _⟩ => ⟨S128x1024, .f32⟩
  | .hbm, ⟨89, _⟩ => ⟨S128x1024, .f32⟩
  | .hbm, ⟨90, _⟩ => ⟨S128x1x1024, .f32⟩
  | .hbm, ⟨91, _⟩ => ⟨S_, .f32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128x1, .f32⟩
  | .hbm, ⟨97, _⟩ => ⟨S128x64, .f32⟩
  | .hbm, ⟨98, _⟩ => ⟨S128x64, .f32⟩
  | .hbm, ⟨99, _⟩ => ⟨S128x64, .f32⟩
  | .hbm, ⟨100, _⟩ => ⟨S_, .f32⟩
  | .hbm, ⟨101, _⟩ => ⟨S128, .f32⟩
  | .hbm, ⟨102, _⟩ => ⟨S128x1, .f32⟩
  | .hbm, ⟨103, _⟩ => ⟨S128x64, .f32⟩
  | .hbm, ⟨104, _⟩ => ⟨S128x64, .f32⟩
  | .hbm, ⟨105, _⟩ => ⟨S_, .f32⟩
  | .hbm, ⟨106, _⟩ => ⟨S64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S_, .f32⟩
  | .hbm, ⟨111, _⟩ => ⟨S64, .f32⟩
  | .hbm, ⟨112, _⟩ => ⟨S64, .f32⟩
  | .hbm, ⟨113, _⟩ => ⟨S64, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_values : Ref sig .tc := ⟨.hbm, 25, rfl⟩
abbrev main_indices : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_6 : Ref sig .tc := ⟨.hbm, 81, rfl⟩
abbrev main_v46 : Ref sig .tc := ⟨.hbm, 82, rfl⟩
abbrev main_v47 : Ref sig .tc := ⟨.hbm, 83, rfl⟩
abbrev main_cst_7 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_8 : Ref sig .tc := ⟨.hbm, 91, rfl⟩
abbrev main_v54 : Ref sig .tc := ⟨.hbm, 92, rfl⟩
abbrev main_cst_9 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_10 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_11 : Ref sig .tc := ⟨.hbm, 105, rfl⟩
abbrev main_v65 : Ref sig .tc := ⟨.hbm, 106, rfl⟩
abbrev main_cst_12 : Ref sig .tc := ⟨.hbm, 107, rfl⟩
abbrev main_v66 : Ref sig .tc := ⟨.hbm, 108, rfl⟩
abbrev main_v67 : Ref sig .tc := ⟨.hbm, 109, rfl⟩
abbrev main_cst_13 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_14 : Ref sig .tc := ⟨.hbm, 114, rfl⟩
abbrev main_v71 : Ref sig .tc := ⟨.hbm, 115, rfl⟩
abbrev main_cst_15 : Ref sig .tc := ⟨.hbm, 116, rfl⟩
abbrev main_v72 : Ref sig .tc := ⟨.hbm, 117, rfl⟩

abbrev nD : Nat := 1
abbrev τ : Topo := Topo.v7x

variable {F : FTy → Type} [FloatOps F]
-- ==== Proof.Same.lean ====
/-
  The kernel and its ideal reading are the same text: at machine floats they are one program.
-/
module

public import proofs.«01_k».proof.Defs
public import proofs.«01_k».proof.Proof.Gen.Kernel
public import proofs.«01_k».proof.Proof.Gen.KernelIdeal

@[expose] public section

set_option maxRecDepth 16384

noncomputable section

namespace Cert.Proof.Same

open Idealize.ShloMosaic Idealize.ShloMosaic.TcCoe
open Idealize.SL.Sem

attribute [local instance] Cert.Kernel.Gen.facts Cert.KernelIdeal.Gen.facts

theorem row_same (a) : Cert.Kernel.defs₀ (F := Bits) .tc (0 : Fin 1) a = Cert.KernelIdeal.defs₀ (F := Bits) .tc (0 : Fin 1) a := rfl

theorem table_same : Cert.Kernel.defs₀ (F := Bits) = Cert.KernelIdeal.defs₀ (F := Bits) := by
  funext p l
  match p, l with
  | .tc, ⟨0, _⟩ => funext a; exact row_same a
  | .scScalar _, _ => rfl
  | .scVector _ _, _ => rfl

theorem defs_same : Cert.Kernel.defs (F := Bits) = Cert.KernelIdeal.defs (F := Bits) :=
  congrArg (Pipeline.defs (Cert.Kernel.pcfgs (F := Bits))) table_same

theorem main_same : Cert.Kernel.main (F := Bits) = Cert.KernelIdeal.main (F := Bits) := rfl

end Cert.Proof.Same
-- ==== Proof.Names.lean ====
/-
  The names the proof gives to what one trip of the kernel's loop addresses.

  The kernel keeps three rings of two slots each (one per expert weight), fills slot `(k + 1) mod 2` with expert `k + 1`'s
  block while it works on expert `k`'s block in slot `k mod 2`, and carries the ring positions through its loop as seven
  words. Here: the carried words in closed form, the offsets and conditions computed from them, and the slot, block and
  semaphore each slice denotes.
-/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Pipeline.FrameSuffix
public import Idealize.ShloMosaic.Lib.Ring
public import Idealize.ShloMosaic.Lib.Affine
public import Idealize.ShloMosaic.Lib.Tactic

@[expose] public section

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The carried words -/

/-- Trip `k`'s number as a word: which slot the trip waits on. -/
def waitW (k : ℕ) : BitVec 32 := BitVec.ofNat 32 k
/-- The number of blocks issued before trip `k`: which slot the trip fills. -/
def issueW (k : ℕ) : BitVec 32 := BitVec.ofNat 32 (min (k + 1) 64)
/-- The grid position before trip `k`; it returns to 0 after the last. -/
def gridW (k : ℕ) : BitVec 32 := BitVec.ofNat 32 (k % 64)

/-- The seven words the loop carries into trip `k`. -/
abbrev carried (k : ℕ) : BitVec 32 × BitVec 32 × BitVec 32 × BitVec 32 × BitVec 32 × BitVec 32 × BitVec 32 :=
  (issueW k, waitW k, issueW k, waitW k, issueW k, waitW k, gridW k)

theorem trips_eq : k0_t1_loop.trips = 64 := by decide

theorem trip_lt (k : Fin k0_t1_loop.trips) : k.val < 64 := Nat.lt_of_lt_of_eq k.isLt trips_eq

/-! ## Slots, blocks, semaphores -/

abbrev slotOff (s : Fin 2) : Fin 4 → Nat := ![s.val, 0, 0, 0]
theorem slotOff_inb (s : Fin 2) : ∀ a, slotOff s a + S1x1x1024x1024.size a ≤ S2x1x1024x1024.size a := by
  revert s; decide
abbrev cellOff (s : Fin 2) : Fin 1 → Nat := ![s.val]
theorem cellOff_inb (s : Fin 2) : ∀ a, cellOff s a + S1.size a ≤ S2.size a := by revert s; decide
abbrev blkOff (b : Fin 64) : Fin 3 → Nat := ![b.val, 0, 0]
theorem blkOff_inb (b : Fin 64) : ∀ a, blkOff b a + S1x1024x1024.size a ≤ S64x1024x1024.size a := by
  revert b; decide +kernel

/-- Slot `s` of a ring. -/
def slot (R : Memref sig .tc .vmem S2x1x1024x1024 .f32) (s : Fin 2) : Memref sig .tc .vmem S1x1024x1024 .f32 :=
  (R.slice (Rect.unit (s := S2x1x1024x1024) (slotOff s) S1x1x1024x1024.size (slotOff_inb s)) (fun _ => rfl)).squeeze S1x1024x1024 squeezes_S1x1x1024x1024_S1x1024x1024
/-- Expert `b`'s block of a stack of weights. -/
def blk (X : Memref sig .tc .hbm S64x1024x1024 .f32) (b : Fin 64) : Memref sig .tc .hbm S1x1024x1024 .f32 :=
  X.slice (Rect.unit (s := S64x1024x1024) (blkOff b) S1x1024x1024.size (blkOff_inb b)) (fun _ => rfl)
/-- Slot `s`'s semaphore. -/
def cell (A : DmaSems sig S2) (s : Fin 2) : DmaSems sig S_ :=
  (A.slice (Rect.unit (s := S2) (cellOff s) S1.size (cellOff_inb s))).squeeze S_ squeezes_S1_S_

instance (s : Fin 2) : ClosedOff (slotOff s) := ⟨slotOff s, rfl⟩
instance (s : Fin 2) : ClosedOff (cellOff s) := ⟨cellOff s, rfl⟩
instance (b : Fin 64) : ClosedOff (blkOff b) := ⟨blkOff b, rfl⟩

/-! ## The offsets at trip `k` -/

section Offsets

theorem wait_slot : ∀ k : Fin 64, (Scalar.remui (waitW k.val) 2#32).toNat = (Ring.sl 2 k.val).val := by decide +kernel
theorem issue_slot : ∀ k : Fin 64, k.val + 1 < 64 → (Scalar.remui (issueW k.val) 2#32).toNat = (Ring.sl 2 (k.val + 1)).val := by decide +kernel
theorem wait_blk : ∀ k : Fin 64, k0_off14 (gridW k.val) = blkOff (Ring.bk 64 k.val) := by decide +kernel
theorem issue_blk : ∀ k : Fin 64, k.val + 1 < 64 → k0_off5 (gridW k.val) = blkOff (Ring.bk 64 (k.val + 1)) := by decide +kernel

variable (k : ℕ) (hk : k < 64)
include hk

theorem off12_eq : k0_off12 (waitW k) = cellOff (Ring.sl 2 k) := by
  show (![_] : Fin 1 → Nat) = _; rw [wait_slot ⟨k, hk⟩]
theorem off13_eq : k0_off13 (waitW k) = slotOff (Ring.sl 2 k) := by
  show (![_, 0, 0, 0] : Fin 4 → Nat) = _; rw [wait_slot ⟨k, hk⟩]
theorem off21_eq : k0_off21 (waitW k) = slotOff (Ring.sl 2 k) := off13_eq k hk
theorem off14_eq : k0_off14 (gridW k) = blkOff (Ring.bk 64 k) := wait_blk ⟨k, hk⟩
omit hk
variable (hk1 : k + 1 < 64)
include hk1
theorem off3_eq : k0_off3 (issueW k) = cellOff (Ring.sl 2 (k + 1)) := by
  show (![_] : Fin 1 → Nat) = _; rw [issue_slot ⟨k, by omega⟩ hk1]
theorem off4_eq : k0_off4 (issueW k) = slotOff (Ring.sl 2 (k + 1)) := by
  show (![_, 0, 0, 0] : Fin 4 → Nat) = _; rw [issue_slot ⟨k, by omega⟩ hk1]
theorem off5_eq : k0_off5 (gridW k) = blkOff (Ring.bk 64 (k + 1)) := issue_blk ⟨k, by omega⟩ hk1

end Offsets

/-! ## The conditions at trip `k`: a block is issued at every trip but the last, awaited at every trip -/

section Conds

theorem issue_cond : ∀ k : Fin k0_t1_loop.trips, k.val + 1 < 64 → k0_cond1 k (gridW k.val) = 1#1 := by decide +kernel
theorem issue_cond2 : ∀ k : Fin k0_t1_loop.trips, k.val + 1 < 64 → k0_cond2 k (gridW k.val) = 1#1 := by decide +kernel
theorem issue_cond3 : ∀ k : Fin k0_t1_loop.trips, k.val + 1 < 64 → k0_cond3 k (gridW k.val) = 1#1 := by decide +kernel
theorem last_cond : ∀ k : Fin k0_t1_loop.trips, ¬ k.val + 1 < 64 → ¬ k0_cond1 k (gridW k.val) = 1#1 := by decide +kernel
theorem last_cond2 : ∀ k : Fin k0_t1_loop.trips, ¬ k.val + 1 < 64 → ¬ k0_cond2 k (gridW k.val) = 1#1 := by decide +kernel
theorem last_cond3 : ∀ k : Fin k0_t1_loop.trips, ¬ k.val + 1 < 64 → ¬ k0_cond3 k (gridW k.val) = 1#1 := by decide +kernel
theorem wait_cond : ∀ k : Fin k0_t1_loop.trips, k0_cond4 k (gridW k.val) = 1#1 := by decide +kernel
theorem wait_cond5 : ∀ k : Fin k0_t1_loop.trips, k0_cond5 k (gridW k.val) = 1#1 := by decide +kernel
theorem wait_cond6 : ∀ k : Fin k0_t1_loop.trips, k0_cond6 k (gridW k.val) = 1#1 := by decide +kernel

theorem chk1 : ∀ k : Fin k0_t1_loop.trips, k0_chk1 k (issueW k.val) (waitW k.val) (issueW k.val) (waitW k.val) (issueW k.val) (waitW k.val) (gridW k.val) := by
  decide +kernel
theorem chk2 : ∀ k : Fin k0_t1_loop.trips, k0_chk2 (waitW k.val) := by decide +kernel
theorem chk3 : ∀ k : Fin k0_t1_loop.trips, k0_chk3 (waitW k.val) := by decide +kernel
theorem chk4 : ∀ k : Fin k0_t1_loop.trips, k0_chk4 (waitW k.val) := by decide +kernel

end Conds

/-! ## The slices of the program, named -/

section Canon

private theorem cell_of (A : DmaSems sig S2) {off : Fin 1 → Nat} {s : Fin 2} (e : off = cellOff s) (hh) :
    (A.slice (Rect.unit (s := S2) off S1.size hh)).squeeze S_ squeezes_S1_S_ = cell A s :=
  congrArg (fun B : DmaSems sig S1 => B.squeeze S_ squeezes_S1_S_) (SemArray.slice_unit_congr _ e _ _)
private theorem slot_of (R : Memref sig .tc .vmem S2x1x1024x1024 .f32) {off : Fin 4 → Nat} {s : Fin 2} (e : off = slotOff s) (hh hs) :
    (R.slice (Rect.unit (s := S2x1x1024x1024) off S1x1x1024x1024.size hh) hs).squeeze S1x1024x1024 squeezes_S1x1x1024x1024_S1x1024x1024 = slot R s :=
  congrArg (fun M : Memref sig .tc .vmem S1x1x1024x1024 .f32 => M.squeeze S1x1024x1024 squeezes_S1x1x1024x1024_S1x1024x1024)
    (Memref.slice_unit_congr _ e _ _ _ _)
private theorem blk_of (X : Memref sig .tc .hbm S64x1024x1024 .f32) {off : Fin 3 → Nat} {b : Fin 64} (e : off = blkOff b) (hh hs) :
    X.slice (Rect.unit (s := S64x1024x1024) off S1x1024x1024.size hh) hs = blk X b :=
  Memref.slice_unit_congr _ e _ _ _ (fun _ => rfl)

variable (A : DmaSems sig S2) (R : Memref sig .tc .vmem S2x1x1024x1024 .f32) (X : Memref sig .tc .hbm S64x1024x1024 .f32)

@[sl_canon] theorem cell_first (hh) : (A.slice (Rect.unit (s := S2) k0_off1 S1.size hh)).squeeze S_ squeezes_S1_S_ = cell A 0 :=
  cell_of A (by decide) _
@[sl_canon] theorem slot_first (hh hs) :
    (R.slice (Rect.unit (s := S2x1x1024x1024) k0_off2 S1x1x1024x1024.size hh) hs).squeeze S1x1024x1024 squeezes_S1x1x1024x1024_S1x1024x1024 = slot R 0 :=
  slot_of R (by decide) _ _
@[sl_canon] theorem blk_first (hh hs) :
    X.slice (Rect.unit (s := S64x1024x1024) ![0, 0, 0] S1x1024x1024.size hh) hs = blk X 0 := blk_of X (by decide) _ _

variable (k : ℕ)

@[sl_canon] theorem cell_issue1 (hk : k + 1 < 64) (hh) : (A.slice (Rect.unit (s := S2) (k0_off3 (issueW k)) S1.size hh)).squeeze S_ squeezes_S1_S_ = cell A (Ring.sl 2 (k + 1)) :=
  cell_of A (off3_eq k hk) _
@[sl_canon] theorem cell_issue2 (hk : k + 1 < 64) (hh) : (A.slice (Rect.unit (s := S2) (k0_off6 (issueW k)) S1.size hh)).squeeze S_ squeezes_S1_S_ = cell A (Ring.sl 2 (k + 1)) :=
  cell_of A (off3_eq k hk) _
@[sl_canon] theorem cell_issue3 (hk : k + 1 < 64) (hh) : (A.slice (Rect.unit (s := S2) (k0_off9 (issueW k)) S1.size hh)).squeeze S_ squeezes_S1_S_ = cell A (Ring.sl 2 (k + 1)) :=
  cell_of A (off3_eq k hk) _
@[sl_canon] theorem cell_wait1 (hk : k < 64) (hh) : (A.slice (Rect.unit (s := S2) (k0_off12 (waitW k)) S1.size hh)).squeeze S_ squeezes_S1_S_ = cell A (Ring.sl 2 k) :=
  cell_of A (off12_eq k hk) _
@[sl_canon] theorem cell_wait2 (hk : k < 64) (hh) : (A.slice (Rect.unit (s := S2) (k0_off15 (waitW k)) S1.size hh)).squeeze S_ squeezes_S1_S_ = cell A (Ring.sl 2 k) :=
  cell_of A (off12_eq k hk) _
@[sl_canon] theorem cell_wait3 (hk : k < 64) (hh) : (A.slice (Rect.unit (s := S2) (k0_off18 (waitW k)) S1.size hh)).squeeze S_ squeezes_S1_S_ = cell A (Ring.sl 2 k) :=
  cell_of A (off12_eq k hk) _

@[sl_canon] theorem slot_issue1 (hk : k + 1 < 64) (hh hs) :
    (R.slice (Rect.unit (s := S2x1x1024x1024) (k0_off4 (issueW k)) S1x1x1024x1024.size hh) hs).squeeze S1x1024x1024 squeezes_S1x1x1024x1024_S1x1024x1024 = slot R (Ring.sl 2 (k + 1)) :=
  slot_of R (off4_eq k hk) _ _
@[sl_canon] theorem slot_issue2 (hk : k + 1 < 64) (hh hs) :
    (R.slice (Rect.unit (s := S2x1x1024x1024) (k0_off7 (issueW k)) S1x1x1024x1024.size hh) hs).squeeze S1x1024x1024 squeezes_S1x1x1024x1024_S1x1024x1024 = slot R (Ring.sl 2 (k + 1)) :=
  slot_of R (off4_eq k hk) _ _
@[sl_canon] theorem slot_issue3 (hk : k + 1 < 64) (hh hs) :
    (R.slice (Rect.unit (s := S2x1x1024x1024) (k0_off10 (issueW k)) S1x1x1024x1024.size hh) hs).squeeze S1x1024x1024 squeezes_S1x1x1024x1024_S1x1024x1024 = slot R (Ring.sl 2 (k + 1)) :=
  slot_of R (off4_eq k hk) _ _
@[sl_canon] theorem slot_wait1 (hk : k < 64) (hh hs) :
    (R.slice (Rect.unit (s := S2x1x1024x1024) (k0_off13 (waitW k)) S1x1x1024x1024.size hh) hs).squeeze S1x1024x1024 squeezes_S1x1x1024x1024_S1x1024x1024 = slot R (Ring.sl 2 k) :=
  slot_of R (off13_eq k hk) _ _
@[sl_canon] theorem slot_wait2 (hk : k < 64) (hh hs) :
    (R.slice (Rect.unit (s := S2x1x1024x1024) (k0_off16 (waitW k)) S1x1x1024x1024.size hh) hs).squeeze S1x1024x1024 squeezes_S1x1x1024x1024_S1x1024x1024 = slot R (Ring.sl 2 k) :=
  slot_of R (off13_eq k hk) _ _
@[sl_canon] theorem slot_wait3 (hk : k < 64) (hh hs) :
    (R.slice (Rect.unit (s := S2x1x1024x1024) (k0_off19 (waitW k)) S1x1x1024x1024.size hh) hs).squeeze S1x1024x1024 squeezes_S1x1x1024x1024_S1x1024x1024 = slot R (Ring.sl 2 k) :=
  slot_of R (off13_eq k hk) _ _
@[sl_canon] theorem slot_load1 (hk : k < 64) (hh hs) :
    (R.slice (Rect.unit (s := S2x1x1024x1024) (k0_off21 (waitW k)) S1x1x1024x1024.size hh) hs).squeeze S1x1024x1024 squeezes_S1x1x1024x1024_S1x1024x1024 = slot R (Ring.sl 2 k) :=
  slot_of R (off13_eq k hk) _ _
@[sl_canon] theorem slot_load2 (hk : k < 64) (hh hs) :
    (R.slice (Rect.unit (s := S2x1x1024x1024) (k0_off22 (waitW k)) S1x1x1024x1024.size hh) hs).squeeze S1x1024x1024 squeezes_S1x1x1024x1024_S1x1024x1024 = slot R (Ring.sl 2 k) :=
  slot_of R (off13_eq k hk) _ _
@[sl_canon] theorem slot_load3 (hk : k < 64) (hh hs) :
    (R.slice (Rect.unit (s := S2x1x1024x1024) (k0_off23 (waitW k)) S1x1x1024x1024.size hh) hs).squeeze S1x1024x1024 squeezes_S1x1x1024x1024_S1x1024x1024 = slot R (Ring.sl 2 k) :=
  slot_of R (off13_eq k hk) _ _

@[sl_canon] theorem blk_issue1 (hk : k + 1 < 64) (hh hs) :
    X.slice (Rect.unit (s := S64x1024x1024) (k0_off5 (gridW k)) S1x1024x1024.size hh) hs = blk X (Ring.bk 64 (k + 1)) := blk_of X (off5_eq k hk) _ _
@[sl_canon] theorem blk_issue2 (hk : k + 1 < 64) (hh hs) :
    X.slice (Rect.unit (s := S64x1024x1024) (k0_off8 (gridW k)) S1x1024x1024.size hh) hs = blk X (Ring.bk 64 (k + 1)) := blk_of X (off5_eq k hk) _ _
@[sl_canon] theorem blk_issue3 (hk : k + 1 < 64) (hh hs) :
    X.slice (Rect.unit (s := S64x1024x1024) (k0_off11 (gridW k)) S1x1024x1024.size hh) hs = blk X (Ring.bk 64 (k + 1)) := blk_of X (off5_eq k hk) _ _
@[sl_canon] theorem blk_wait1 (hk : k < 64) (hh hs) :
    X.slice (Rect.unit (s := S64x1024x1024) (k0_off14 (gridW k)) S1x1024x1024.size hh) hs = blk X (Ring.bk 64 k) := blk_of X (off14_eq k hk) _ _
@[sl_canon] theorem blk_wait2 (hk : k < 64) (hh hs) :
    X.slice (Rect.unit (s := S64x1024x1024) (k0_off17 (gridW k)) S1x1024x1024.size hh) hs = blk X (Ring.bk 64 k) := blk_of X (off14_eq k hk) _ _
@[sl_canon] theorem blk_wait3 (hk : k < 64) (hh hs) :
    X.slice (Rect.unit (s := S64x1024x1024) (k0_off20 (gridW k)) S1x1024x1024.size hh) hs = blk X (Ring.bk 64 k) := blk_of X (off14_eq k hk) _ _

end Canon

end Cert.Proof.Moe
-- ==== Proof.Pieces.lean ====
/-
  What is held of a ring between trips: a slot at some contents, a slot with a block on its way, a slot's semaphore at
  rest, the blocks of the weight stack that are not on their way.
-/
module

public import proofs.«01_k».proof.Proof.Names
public import Idealize.ShloMosaic.Lib.Ring.AtN

@[expose] public section

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## A two-slot ring one block ahead, opened around a trip -/

section TwoSlots

variable {M : Type _} [URA M] {C : Fin 2 → Type _}
variable (home : Fin 64 → sProp M) (rest : Fin 2 → sProp M) (held : (s : Fin 2) → C s → sProp M) (fly : (s : Fin 2) → Fin 64 → C s → sProp M)

theorem two_here (k : ℕ) (hk : k + 1 < 64) :
    Ring.At 1 rest held home fly k
      = iprop((home (Ring.bk 64 (k + 1)) ∗ bigSep ((Ring.homeSet 1 k).erase (Ring.bk 64 (k + 1))) home)
          ∗ (∃ f, fly (Ring.sl 2 k) (Ring.bk 64 k) f) ∗ (rest (Ring.sl 2 (k + 1)) ∗ ∃ f, held (Ring.sl 2 (k + 1)) f)) :=
  Ring.At_here_n home 1 rest held fly [0, 1] (by decide) (by decide) k hk

theorem two_next (k : ℕ) (hk : k + 1 < 64) :
    Ring.At 1 rest held home fly (k + 1)
      = iprop((home (Ring.bk 64 k) ∗ bigSep ((Ring.homeSet 1 k).erase (Ring.bk 64 (k + 1))) home)
          ∗ (∃ f, fly (Ring.sl 2 (k + 1)) (Ring.bk 64 (k + 1)) f) ∗ (rest (Ring.sl 2 k) ∗ ∃ f, held (Ring.sl 2 k) f)) := by
  have e : Ring.At 1 rest held home fly (k + 1)
      = iprop((home (Ring.bk 64 k) ∗ bigSep ((Ring.homeSet 1 k).erase (Ring.bk 64 (k + 1))) home)
          ∗ Ring.slotAt 1 rest held fly (k + 1) 0 ∗ (rest (Ring.sl 2 k) ∗ ∃ f, held (Ring.sl 2 k) f)) :=
    Ring.At_next_n home 1 rest held fly [0, 1] (by decide) (by decide) rfl k hk
  rw [e, Ring.slotAt_eq_inflight 1 rest held fly (k + 1) 0 (k + 1) rfl ⟨by decide, hk⟩]

theorem two_last (k : ℕ) (hk : k = 63) :
    Ring.At 1 rest held home fly k
      = iprop(bigSep (Ring.homeSet 1 k) home
          ∗ (∃ f, fly (Ring.sl 2 k) (Ring.bk 64 k) f) ∗ (rest (Ring.sl 2 (k + 1)) ∗ ∃ f, held (Ring.sl 2 (k + 1)) f)) :=
  Ring.At_here_tail_n home 1 rest held fly [0, 1] (by decide) (by decide) rfl (by decide) k (by omega)

theorem two_done (k : ℕ) (hk : k = 63) :
    Ring.At 1 rest held home fly (k + 1)
      = iprop((home (Ring.bk 64 k) ∗ bigSep (Ring.homeSet 1 k) home)
          ∗ (rest (Ring.sl 2 (k + 1)) ∗ ∃ f, held (Ring.sl 2 (k + 1)) f) ∗ (rest (Ring.sl 2 k) ∗ ∃ f, held (Ring.sl 2 k) f)) :=
  Ring.At_next_tail_n home 1 rest held fly [0, 1] (by decide) (by decide) rfl k (by omega) (by omega)

end TwoSlots

/-- The ghost state: the pipeline's, beside the counters the kernel's own transfers use. -/
abbrev UU (nD : Nat) (τ : Topo) : Type := UR sig nD τ × Counters
local notation "𝕄" => MT nD τ sig Unit (Elt F) ℕ (UU nD τ) ℕ
abbrev 𝒱₀ : Variants := Variants.none

variable (c : Dev nD)

/-- A memref held whole at contents `f`. -/
abbrev heldP {sp : Space} {s : Shape} {e : EltTy} (M : Memref sig .tc sp s e) (f : Buf (Elt F) (M.view.loc (c : Thread nD τ))) : sProp 𝕄 :=
  M.view.loc (c : Thread nD τ) ↦[M.view.set]{fullShare} f

/-- A transfer's semaphore at rest. -/
abbrev restP (S : DmaSems sig S_) : sProp 𝕄 := semVal ((c : Thread nD τ), SemLoc.dma S.sem) 0

section Ring

variable (R : Memref sig .tc .vmem S2x1x1024x1024 .f32) (A : DmaSems sig S2) (X : Memref sig .tc .hbm S64x1024x1024 .f32)
  (XA : Buf (Elt F) (X.view.loc (c : Thread nD τ)))

abbrev slotP (s : Fin 2) (f : Buf (Elt F) ((slot R s).view.loc (c : Thread nD τ))) : sProp 𝕄 :=
  (slot R s).view.loc (c : Thread nD τ) ↦[(slot R s).view.set]{fullShare} f
/-- Block `b` of the stack in its place. -/
abbrev homeP (b : Fin 64) : sProp 𝕄 := (blk X b).view.loc (c : Thread nD τ) ↦[(blk X b).view.set]{fullShare} XA
/-- Block `b`'s numbers. -/
abbrev blkVal (b : Fin 64) : S1x1024x1024.Idx → Elt F .f32 := ReadAs.same.apply ((blk X b).view.read (Elt F) XA)
/-- Slot `s` once block `b` has arrived over contents `f`. -/
abbrev landed (s : Fin 2) (b : Fin 64) (f : Buf (Elt F) ((slot R s).view.loc (c : Thread nD τ))) : Buf (Elt F) ((slot R s).view.loc (c : Thread nD τ)) :=
  (slot R s).view.writes (Elt F) f [⟨Rect.whole S1x1024x1024, blkVal c X XA b⟩]
/-- Block `b` on its way into slot `s`. -/
abbrev flightP (s : Fin 2) (b : Fin 64) (f : Buf (Elt F) ((slot R s).view.loc (c : Thread nD τ))) : sProp 𝕄 :=
  Transfers.Flight countersEmb (c : Thread nD τ) (SemLoc.dma (cell A s).sem) () 131072 iprop(slotP c R s (landed c R X XA s b f) ∗ homeP c X XA b)
/-- The ring before trip `k`: block `k` on its way into slot `k mod 2`, the other slot free, the other blocks at home. -/
abbrev ringP (k : ℕ) : sProp 𝕄 :=
  Ring.At (n := 2) (NB := 64) 1 (fun s => restP c (cell A s)) (fun s f => slotP c R s f) (homeP c X XA) (fun s b f => flightP c R A X XA s b f) k

/-- Before a trip that fills the other slot, block `k + 1` set apart. -/
theorem ring_here (k : ℕ) (hk : k + 1 < 64) :
    ringP c R A X XA k
      = iprop((homeP c X XA (Ring.bk 64 (k + 1)) ∗ bigSep ((Ring.homeSet 1 k).erase (Ring.bk 64 (k + 1))) (homeP c X XA))
          ∗ (∃ f, flightP c R A X XA (Ring.sl 2 k) (Ring.bk 64 k) f)
          ∗ (restP c (cell A (Ring.sl 2 (k + 1))) ∗ ∃ f, slotP c R (Ring.sl 2 (k + 1)) f)) :=
  two_here _ _ _ _ k hk

/-- After it, block `k` back at home. -/
theorem ring_next (k : ℕ) (hk : k + 1 < 64) :
    ringP c R A X XA (k + 1)
      = iprop((homeP c X XA (Ring.bk 64 k) ∗ bigSep ((Ring.homeSet 1 k).erase (Ring.bk 64 (k + 1))) (homeP c X XA))
          ∗ (∃ f, flightP c R A X XA (Ring.sl 2 (k + 1)) (Ring.bk 64 (k + 1)) f)
          ∗ (restP c (cell A (Ring.sl 2 k)) ∗ ∃ f, slotP c R (Ring.sl 2 k) f)) :=
  two_next _ _ _ _ k hk

/-- Before the last trip, which fills nothing. -/
theorem ring_last (k : ℕ) (hk : k = 63) :
    ringP c R A X XA k
      = iprop(bigSep (Ring.homeSet 1 k) (homeP c X XA)
          ∗ (∃ f, flightP c R A X XA (Ring.sl 2 k) (Ring.bk 64 k) f)
          ∗ (restP c (cell A (Ring.sl 2 (k + 1))) ∗ ∃ f, slotP c R (Ring.sl 2 (k + 1)) f)) :=
  two_last _ _ _ _ k hk

/-- After it: every block at home, both slots free. -/
theorem ring_done (k : ℕ) (hk : k = 63) :
    ringP c R A X XA (k + 1)
      = iprop((homeP c X XA (Ring.bk 64 k) ∗ bigSep (Ring.homeSet 1 k) (homeP c X XA))
          ∗ (restP c (cell A (Ring.sl 2 (k + 1))) ∗ ∃ f, slotP c R (Ring.sl 2 (k + 1)) f)
          ∗ (restP c (cell A (Ring.sl 2 k)) ∗ ∃ f, slotP c R (Ring.sl 2 k) f)) :=
  two_done _ _ _ _ k hk

end Ring

end Cert.Proof.Moe
-- ==== Proof.Held.lean ====
/-
  The buffers of one trip of the kernel's loop, the numbers a trip computes, and what it is handed and hands back.
-/
module

public import proofs.«01_k».proof.Proof.Pieces
public import Idealize.ShloMosaic.Lib.VecWindow

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## The buffers: the weights where they lie, the kernel's own buffers, its three rings -/

abbrev WgM : Memref sig .tc .hbm S64x1024x1024 .f32 := Memref.whole main_arg2
abbrev WuM : Memref sig .tc .hbm S64x1024x1024 .f32 := Memref.whole main_arg3
abbrev WdM : Memref sig .tc .hbm S64x1024x1024 .f32 := Memref.whole main_arg4
abbrev SgM : Memref sig .tc .hbm S1024x1024 .f32 := Memref.whole main_arg5
abbrev SuM : Memref sig .tc .hbm S1024x1024 .f32 := Memref.whole main_arg6
abbrev SdM : Memref sig .tc .hbm S1024x1024 .f32 := Memref.whole main_arg7
abbrev wM : Memref sig .tc .vmem S128x64 .f32 := Memref.whole cc0_scratch0
abbrev SgV : Memref sig .tc .vmem S1024x1024 .f32 := Memref.whole cc0_scratch1
abbrev SuV : Memref sig .tc .vmem S1024x1024 .f32 := Memref.whole cc0_scratch2
abbrev SdV : Memref sig .tc .vmem S1024x1024 .f32 := Memref.whole cc0_scratch3
abbrev cntM : Memref sig .tc .smem S1 .i32 := Memref.whole cc0_scratch4
abbrev R1 : Memref sig .tc .vmem S2x1x1024x1024 .f32 := Memref.whole cc0_scoped0
abbrev R2 : Memref sig .tc .vmem S2x1x1024x1024 .f32 := Memref.whole cc0_scoped2
abbrev R3 : Memref sig .tc .vmem S2x1x1024x1024 .f32 := Memref.whole cc0_scoped4

/-- The semaphore of the `i`-th shared-expert weight. -/
def scell (i : Fin 3) : DmaSems sig S_ :=
  (cc0_scratch5.slice (Rect.unit (s := S3) ![i.val] S1.size (by revert i; decide))).squeeze S_ squeezes_S1_S_
@[sl_canon] theorem scell_0 (hh) : (cc0_scratch5.slice (Rect.unit (s := S3) ![0] S1.size hh)).squeeze S_ squeezes_S1_S_ = scell 0 := rfl
@[sl_canon] theorem scell_1 (hh) : (cc0_scratch5.slice (Rect.unit (s := S3) ![1] S1.size hh)).squeeze S_ squeezes_S1_S_ = scell 1 := rfl
@[sl_canon] theorem scell_2 (hh) : (cc0_scratch5.slice (Rect.unit (s := S3) ![2] S1.size hh)).squeeze S_ squeezes_S1_S_ = scell 2 := rfl

/-! ## What the kernel computes -/

/-- The router's weights: for each row of `x`, the eight largest gate probabilities, each in its place, and zeros elsewhere. -/
def wts (v0 : IVec S128x64 32) (v9 : FVec F S128x1024 .bf16) (Wg : Vec F S1024x64 .f32) : FVec F S128x64 .f32 :=
  k0_pay18 v0 (k0_pay1 v9 Wg)
    (k0_pay14 v0 (k0_pay6 v0 v9 Wg) (k0_pay7 v0 v9 Wg) k0_pay8)
    (k0_pay15 v0 (k0_pay6 v0 v9 Wg) (k0_pay7 v0 v9 Wg) k0_pay8)
    (k0_pay16 v0 (k0_pay1 v9 Wg) (k0_pay5 v0 v9 Wg) (k0_pay6 v0 v9 Wg) (k0_pay7 v0 v9 Wg) k0_pay8) k0_pay17

/-- The balance term. -/
def balance (v9 : FVec F S128x1024 .bf16) (Wg : Vec F S1024x64 .f32) : FVec F S1x1 .f32 := k0_pay19 (k0_pay1 v9 Wg)

/-- The output after expert `k`'s part is added to `o`. -/
def addExpert (v0 : IVec S128x64 32) (v9 : FVec F S128x1024 .bf16) (k : ℕ) (B1 B2 B3 : Vec F S1x1024x1024 .f32)
    (w : Vec F S128x64 .f32) (o : Vec F S128x1024 .f32) : FVec F S128x1024 .f32 :=
  k0_pay22 v0 (BitVec.ofNat 32 k) (k0_pay20 B3) (k0_pay21 v9 B1 B2) (constant S128x1024 .f32 0#32) w o

/-- The output after the shared expert's part, scaled by its gate `g`, is added to `o`. -/
def addShared (v9 : FVec F S128x1024 .bf16) (A B C : Vec F S1024x1024 .f32) (g : Vec F S1x1024 .f32) (o : Vec F S128x1024 .f32) :
    FVec F S128x1024 .f32 := k0_pay23 v9 A B C g o

/-! ## What is held -/

section Held

variable (c : Dev nD)

/-- A memref held at the numbers `x`. -/
def valP {sp : Space} {s : Shape} {e : EltTy} (M : Memref sig .tc sp s e) (x : s.Idx → Elt F e) : sProp 𝕄 :=
  iprop(∃ f, ⌜M.view.read (Elt F) f = x⌝ ∗ heldP c M f)

theorem valP_intro {sp : Space} {s : Shape} {e : EltTy} (M : Memref sig .tc sp s e) (x : s.Idx → Elt F e) (f) (h : M.view.read (Elt F) f = x) :
    heldP c M f ⊢ (valP c M x : sProp 𝕄) := by
  unfold valP
  iintro H
  iexists f
  isplitr; · ipureintro; exact h
  iexact H

/-- A memref held at some numbers. -/
abbrev someP {sp : Space} {s : Shape} {e : EltTy} (M : Memref sig .tc sp s e) : sProp 𝕄 := iprop(∃ f, heldP c M f)

variable (X1 : Buf (Elt F) (WgM.view.loc (c : Thread nD τ))) (X2 : Buf (Elt F) (WuM.view.loc (c : Thread nD τ)))
  (X3 : Buf (Elt F) (WdM.view.loc (c : Thread nD τ)))

/-- The counter's word at `k`. -/
abbrev cntB (k : ℕ) : Buf (Elt F) (cntM.view.loc (c : Thread nD τ)) := fun _ => BitVec.ofNat 32 k

theorem cnt_store (f : Buf (Elt F) (cntM.view.loc (c : Thread nD τ))) (hh) (x : BitVec 32) :
    cntM.view.writes (Elt F) f [⟨Rect.unit (s := S1) ![0] S1.size hh, fun _ => x⟩] = fun _ => x := by
  exact View.read_writes_full cntM.view f hh (fun _ => x) []

theorem cnt_back (k : ℕ) (f : Buf (Elt F) (cntM.view.loc (c : Thread nD τ))) (hh) (x : BitVec 32) (hx : x = Scalar.addi (BitVec.ofNat 32 k) 1#32) :
    heldP c cntM (cntM.view.writes (Elt F) f [⟨Rect.unit (s := S1) ![0] S1.size hh, fun _ => x⟩]) ⊢ (heldP c cntM (cntB c (k + 1)) : sProp 𝕄) := by
  have e : x = BitVec.ofNat 32 (k + 1) := by
    rw [hx]; show BitVec.ofNat 32 k + BitVec.ofNat 32 1 = _; rw [← BitVec.ofNat_add]
  rw [cnt_store, e]

/-- A memref loaded whole after a block has been written to it whole: the block. -/
theorem load_landed {sp : Space} {s : Shape} {e : EltTy} (v : View sig .tc sp s e) (x : s.Idx → Elt F e)
    {off : Fin s.rank → ℕ} (inb : ∀ a, off a + s.size a ≤ s.size a) :
    v.readCov [⟨Rect.whole s, x⟩] (Rect.unit off s.size inb).toLoadRect = x := by
  unfold View.readCov
  rw [View.readAt_full, View.read_writes_whole]

/-- The three rings before trip `k`. -/
abbrev rings (k : ℕ) : sProp 𝕄 :=
  iprop(ringP c R1 cc0_scoped1 WgM X1 k ∗ ringP c R2 cc0_scoped3 WuM X2 k ∗ ringP c R3 cc0_scoped5 WdM X3 k)

/-- A shared-expert weight on its way from where it lies to the kernel's buffer. -/
abbrev sendP (i : Fin 3) (M : Memref sig .tc .hbm S1024x1024 .f32) (V : Memref sig .tc .vmem S1024x1024 .f32)
    (Y : Buf (Elt F) (M.view.loc (c : Thread nD τ))) (f : Buf (Elt F) (V.view.loc (c : Thread nD τ))) : sProp 𝕄 :=
  Transfers.Flight countersEmb (c : Thread nD τ) (SemLoc.dma (scell i).sem) () 131072
    iprop(heldP c V (V.view.writes (Elt F) f [⟨Rect.whole S1024x1024, ReadAs.same.apply (M.view.read (Elt F) Y)⟩]) ∗ heldP c M Y)

/-- The shared-expert weights before they arrive, -/
def sharedOut (Y1 : Buf (Elt F) (SgM.view.loc (c : Thread nD τ))) (Y2 : Buf (Elt F) (SuM.view.loc (c : Thread nD τ)))
    (Y3 : Buf (Elt F) (SdM.view.loc (c : Thread nD τ))) : sProp 𝕄 :=
  iprop((∃ f, sendP c 0 SgM SgV Y1 f) ∗ (∃ f, sendP c 1 SuM SuV Y2 f) ∗ (∃ f, sendP c 2 SdM SdV Y3 f))
/-- and once they have. -/
def sharedIn (Y1 : Buf (Elt F) (SgM.view.loc (c : Thread nD τ))) (Y2 : Buf (Elt F) (SuM.view.loc (c : Thread nD τ)))
    (Y3 : Buf (Elt F) (SdM.view.loc (c : Thread nD τ))) : sProp 𝕄 :=
  iprop((someP c SgV ∗ heldP c SgM Y1 ∗ restP c (scell 0)) ∗ (someP c SuV ∗ heldP c SuM Y2 ∗ restP c (scell 1))
    ∗ (someP c SdV ∗ heldP c SdM Y3 ∗ restP c (scell 2)))

end Held

/-! ## One trip -/

section Trip

variable (c : Dev nD)
  (arg0 : Memref sig .tc .vmem S128x1024 .f32) (harg0 : arg0.IsWhole)
  (arg1 : Memref sig .tc .vmem S1024x64 .f32) (harg1 : arg1.IsWhole)
  (arg2 : Memref sig .tc .vmem S1x1024 .f32) (harg2 : arg2.IsWhole)
  (arg9 : Memref sig .tc .vmem S128x1024 .f32) (harg9 : arg9.IsWhole)
  (arg10 : Memref sig .tc .vmem S1x1 .f32) (harg10 : arg10.IsWhole)

/-- The program of trip `k`. -/
abbrev tripG (v0 : IVec S128x64 32) (v9 : FVec F S128x1024 .bf16) (k : Fin k0_t1_loop.trips) :=
  k0_t1_body (F := F) arg0 harg0 arg1 harg1 arg2 harg2 WgM (Memref.isWhole_whole _) WuM (Memref.isWhole_whole _) WdM (Memref.isWhole_whole _)
    SgM (Memref.isWhole_whole _) SuM (Memref.isWhole_whole _) SdM (Memref.isWhole_whole _) arg9 harg9 arg10 harg10
    wM (Memref.isWhole_whole _) SgV (Memref.isWhole_whole _) SuV (Memref.isWhole_whole _) SdV (Memref.isWhole_whole _) cntM (Memref.isWhole_whole _)
    cc0_scratch5 R1 (Memref.isWhole_whole _) cc0_scoped1 R2 (Memref.isWhole_whole _) cc0_scoped3 R3 (Memref.isWhole_whole _) cc0_scoped5
    v0 v9 0#32 k (carried k.val)

end Trip

/-! ## The two conditions on the counter -/

theorem not_first : ∀ k : Fin k0_t1_loop.trips, k.val ≠ 0 →
    ¬ Scalar.cmpi .ne (Scalar.extui (Scalar.cmpi .eq (BitVec.ofNat 32 k.val) 0#32) : BitVec 32) 0#32 = 1#1 := by decide +kernel
theorem is_first : ∀ k : Fin k0_t1_loop.trips, k.val = 0 →
    Scalar.cmpi .ne (Scalar.extui (Scalar.cmpi .eq (BitVec.ofNat 32 k.val) 0#32) : BitVec 32) 0#32 = 1#1 := by decide +kernel
theorem not_shared : ∀ k : Fin k0_t1_loop.trips, k.val ≠ 32 →
    ¬ Scalar.cmpi .ne (Scalar.extui (Scalar.cmpi .eq (BitVec.ofNat 32 k.val) 32#32) : BitVec 32) 0#32 = 1#1 := by decide +kernel
theorem is_shared : ∀ k : Fin k0_t1_loop.trips, k.val = 32 →
    Scalar.cmpi .ne (Scalar.extui (Scalar.cmpi .eq (BitVec.ofNat 32 k.val) 32#32) : BitVec 32) 0#32 = 1#1 := by decide +kernel

end Cert.Proof.Moe
-- ==== Proof.Trip.lean ====
/-
  A trip that is neither the first, nor the shared expert's, nor the last: expert `k + 1`'s blocks are sent for, expert
  `k`'s are awaited, and expert `k`'s part is added to the output.
-/
module

public import proofs.«01_k».proof.Proof.Held

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD)
  (arg0 : Memref sig .tc .vmem S128x1024 .f32) (harg0 : arg0.IsWhole)
  (arg1 : Memref sig .tc .vmem S1024x64 .f32) (harg1 : arg1.IsWhole)
  (arg2 : Memref sig .tc .vmem S1x1024 .f32) (harg2 : arg2.IsWhole)
  (arg9 : Memref sig .tc .vmem S128x1024 .f32) (harg9 : arg9.IsWhole)
  (arg10 : Memref sig .tc .vmem S1x1 .f32) (harg10 : arg10.IsWhole)
  (X1 : Buf (Elt F) (WgM.view.loc (c : Thread nD τ))) (X2 : Buf (Elt F) (WuM.view.loc (c : Thread nD τ)))
  (X3 : Buf (Elt F) (WdM.view.loc (c : Thread nD τ)))
  (v0 : IVec S128x64 32) (v9 : FVec F S128x1024 .bf16)

theorem midTrip (k : Fin k0_t1_loop.trips) (h0 : k.val ≠ 0) (h32 : k.val ≠ 32) (h63 : k.val + 1 < 64)
    (w : Vec F S128x64 .f32) (o : Vec F S128x1024 .f32) :
    iprop(valP c arg9 o ∗ valP c wM w ∗ heldP c cntM (cntB c k.val) ∗ (∃ W, owes (c : Thread nD τ) 0 W) ∗ rings c X1 X2 X3 k.val)
      ⊢ (wp frame (wpE (defs₀ (F := F)) 𝒱₀ (c : Thread nD τ) none) Set.univ
          (tripG arg0 harg0 arg1 harg1 arg2 harg2 arg9 harg9 arg10 harg10 v0 v9 k)
          (fun r => iprop(⌜r = carried (k.val + 1)⌝
            ∗ valP c arg9 (addExpert v0 v9 k.val (blkVal c WgM X1 (Ring.bk 64 k.val)) (blkVal c WuM X2 (Ring.bk 64 k.val)) (blkVal c WdM X3 (Ring.bk 64 k.val)) w o)
            ∗ valP c wM w ∗ heldP c cntM (cntB c (k.val + 1)) ∗ (∃ W, owes (c : Thread nD τ) 0 W) ∗ rings c X1 X2 X3 (k.val + 1))) : sProp 𝕄) := by
  have hk64 : k.val < 64 := by omega
  have hc1 := issue_cond k h63
  have hc2 := issue_cond2 k h63
  have hc3 := issue_cond3 k h63
  have hc4 := wait_cond k
  have hc5 := wait_cond5 k
  have hc6 := wait_cond6 k
  have hk1 := chk1 k
  have hk2 := chk2 k
  have hk3 := chk3 k
  have hk4 := chk4 k
  have hb0 := not_first k h0
  have hb32 := not_shared k h32
  unfold rings
  rw [ring_here c R1 cc0_scoped1 WgM X1 k.val h63, ring_here c R2 cc0_scoped3 WuM X2 k.val h63, ring_here c R3 cc0_scoped5 WdM X3 k.val h63,
    ring_next c R1 cc0_scoped1 WgM X1 k.val h63, ring_next c R2 cc0_scoped3 WuM X2 k.val h63, ring_next c R3 cc0_scoped5 WdM X3 k.val h63]
  unfold valP
  iintro ⟨⟨%fo, %ho, HO⟩, ⟨%fw, %hw, HWt⟩, HC, ⟨%W, HW⟩, ⟨⟨Hg1, Hr1⟩, ⟨%f1, HF1⟩, Hz1, ⟨%g1, Hs1⟩⟩, ⟨⟨Hg2, Hr2⟩, ⟨%f2, HF2⟩, Hz2, ⟨%g2, Hs2⟩⟩, ⟨⟨Hg3, Hr3⟩, ⟨%f3, HF3⟩, Hz3, ⟨%g3, Hs3⟩⟩⟩
  dsimp only [tripG, carried]
  sl_unfold [k0_t1_body]
  sl_exec
  sl_step
  isplitr
  · ipureintro
    simp only [Prod.mk.injEq]
    clear * -
    revert k
    decide +kernel
  isplitl [HO]
  · iexists _
    isplitr
    rotate_left
    · iexact HO
    · ipureintro
      rw [View.read_writes_full]
      unfold addExpert midTrip.sl.r midTrip.sl.r_1 midTrip.sl.r_2 midTrip.sl.cst_151_r0
      unfold midTrip.sl.v149_r0 midTrip.sl.v154_r0 midTrip.sl.v159_r0
      rw [load_landed, load_landed, load_landed, View.readAt_full wM.view, View.readAt_full arg9.view, hw, ho]
      rfl
  isplitl [HWt]
  · iexists fw
    isplitr; · ipureintro; exact hw
    iexact HWt
  isplitl [HC]
  · iapply (cnt_back (F := F) c k.val (cntB c k.val) inb_S1_S1_0 (midTrip.sl.v142_r0 (F := F) c k) (by unfold midTrip.sl.v142_r0 midTrip.sl.r; rfl))
    iexact HC
  isplitl [HW]; · iexists _; iexact HW
  isplitl [Hz1 HF1 HF1_dst HF1_src Hr1]
  · isplitl [HF1_src Hr1]
    · isplitl [HF1_src]; · iexact HF1_src
      iexact Hr1
    isplitl [Hz1]; · iexists g1; iexact Hz1
    isplitl [HF1]; · iexact HF1
    iexists _; iexact HF1_dst
  isplitl [Hz2 HF2 HF2_dst HF2_src Hr2]
  · isplitl [HF2_src Hr2]
    · isplitl [HF2_src]; · iexact HF2_src
      iexact Hr2
    isplitl [Hz2]; · iexists g2; iexact Hz2
    isplitl [HF2]; · iexact HF2
    iexists _; iexact HF2_dst
  isplitl [HF3_src Hr3]
  · isplitl [HF3_src]; · iexact HF3_src
    iexact Hr3
  isplitl [Hz3]; · iexists g3; iexact Hz3
  isplitl [HF3]; · iexact HF3
  iexists _; iexact HF3_dst

end Cert.Proof.Moe
-- ==== Proof.First.lean ====
/-
  The first trip: it also computes the router's weights, which every trip reads, and the balance term.
-/
module

public import proofs.«01_k».proof.Proof.Trip

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD)
  (arg0 : Memref sig .tc .vmem S128x1024 .f32) (harg0 : arg0.IsWhole)
  (arg1 : Memref sig .tc .vmem S1024x64 .f32) (harg1 : arg1.IsWhole)
  (arg2 : Memref sig .tc .vmem S1x1024 .f32) (harg2 : arg2.IsWhole)
  (arg9 : Memref sig .tc .vmem S128x1024 .f32) (harg9 : arg9.IsWhole)
  (arg10 : Memref sig .tc .vmem S1x1 .f32) (harg10 : arg10.IsWhole)
  (X1 : Buf (Elt F) (WgM.view.loc (c : Thread nD τ))) (X2 : Buf (Elt F) (WuM.view.loc (c : Thread nD τ)))
  (X3 : Buf (Elt F) (WdM.view.loc (c : Thread nD τ)))
  (v0 : IVec S128x64 32) (v9 : FVec F S128x1024 .bf16)

theorem firstTrip (k : Fin k0_t1_loop.trips) (h0 : k.val = 0) (h32 : k.val ≠ 32) (h63 : k.val + 1 < 64)
    (Wg : Vec F S1024x64 .f32) (o : Vec F S128x1024 .f32) :
    iprop(valP c arg9 o ∗ valP c arg1 Wg ∗ someP c wM ∗ someP c arg10 ∗ heldP c cntM (cntB c k.val) ∗ (∃ W, owes (c : Thread nD τ) 0 W) ∗ rings c X1 X2 X3 k.val)
      ⊢ (wp frame (wpE (defs₀ (F := F)) 𝒱₀ (c : Thread nD τ) none) Set.univ
          (tripG arg0 harg0 arg1 harg1 arg2 harg2 arg9 harg9 arg10 harg10 v0 v9 k)
          (fun r => iprop(⌜r = carried (k.val + 1)⌝
            ∗ valP c arg9 (addExpert v0 v9 k.val (blkVal c WgM X1 (Ring.bk 64 k.val)) (blkVal c WuM X2 (Ring.bk 64 k.val)) (blkVal c WdM X3 (Ring.bk 64 k.val)) (wts v0 v9 Wg) o)
            ∗ valP c arg1 Wg ∗ valP c wM (wts v0 v9 Wg) ∗ valP c arg10 (balance v9 Wg) ∗ heldP c cntM (cntB c (k.val + 1)) ∗ (∃ W, owes (c : Thread nD τ) 0 W) ∗ rings c X1 X2 X3 (k.val + 1))) : sProp 𝕄) := by
  have hk64 : k.val < 64 := by omega
  have hc1 := issue_cond k h63
  have hc2 := issue_cond2 k h63
  have hc3 := issue_cond3 k h63
  have hc4 := wait_cond k
  have hc5 := wait_cond5 k
  have hc6 := wait_cond6 k
  have hk1 := chk1 k
  have hk2 := chk2 k
  have hk3 := chk3 k
  have hk4 := chk4 k
  have hb0 := is_first k h0
  have hb32 := not_shared k h32
  unfold rings
  rw [ring_here c R1 cc0_scoped1 WgM X1 k.val h63, ring_here c R2 cc0_scoped3 WuM X2 k.val h63, ring_here c R3 cc0_scoped5 WdM X3 k.val h63,
    ring_next c R1 cc0_scoped1 WgM X1 k.val h63, ring_next c R2 cc0_scoped3 WuM X2 k.val h63, ring_next c R3 cc0_scoped5 WdM X3 k.val h63]
  unfold valP
  iintro ⟨⟨%fo, %ho, HO⟩, ⟨%f1g, %h1g, HG⟩, ⟨%fw, HWt⟩, ⟨%fa, HA⟩, HC, ⟨%W, HW⟩, ⟨⟨Hg1, Hr1⟩, ⟨%f1, HF1⟩, Hz1, ⟨%g1, Hs1⟩⟩, ⟨⟨Hg2, Hr2⟩, ⟨%f2, HF2⟩, Hz2, ⟨%g2, Hs2⟩⟩, ⟨⟨Hg3, Hr3⟩, ⟨%f3, HF3⟩, Hz3, ⟨%g3, Hs3⟩⟩⟩
  dsimp only [tripG, carried]
  sl_unfold [k0_t1_body]
  sl_exec
  sl_step
  isplitr
  · ipureintro
    simp only [Prod.mk.injEq]
    clear * -
    revert k
    decide +kernel
  isplitl [HO]
  · iexists _
    isplitr
    rotate_left
    · iexact HO
    · ipureintro
      rw [View.read_writes_full]
      unfold addExpert wts firstTrip.sl.r firstTrip.sl.r_9 firstTrip.sl.r_10 firstTrip.sl.cst_151_r0 firstTrip.sl.v171_r0 firstTrip.sl.HWt_1
      unfold firstTrip.sl.r_5 firstTrip.sl.r_6 firstTrip.sl.r_7 firstTrip.sl.r_1 firstTrip.sl.r_2 firstTrip.sl.r_3 firstTrip.sl.r_4
      unfold firstTrip.sl.v149_r0 firstTrip.sl.v154_r0 firstTrip.sl.v159_r0
      rw [load_landed, load_landed, load_landed, View.readCov_full wM.view, View.readAt_full arg1.view, h1g, View.readAt_full arg9.view, ho]
      rfl
  isplitl [HG]
  · iexists f1g
    isplitr; · ipureintro; exact h1g
    iexact HG
  isplitl [HWt]
  · iexists _
    isplitr
    rotate_left
    · iexact HWt
    · ipureintro
      unfold firstTrip.sl.HWt_1
      rw [View.read_writes_full]
      unfold firstTrip.sl.r_5 firstTrip.sl.r_6 firstTrip.sl.r_7 firstTrip.sl.r_1 firstTrip.sl.r_2 firstTrip.sl.r_3 firstTrip.sl.r_4
      rw [View.readAt_full arg1.view, h1g]
      rfl
  isplitl [HA]
  · iexists _
    isplitr
    rotate_left
    · iexact HA
    · ipureintro
      rw [View.read_writes_full]
      unfold firstTrip.sl.r_8 firstTrip.sl.r_1
      rw [View.readAt_full arg1.view, h1g]
      rfl
  isplitl [HC]
  · iapply (cnt_back (F := F) c k.val (cntB c k.val) inb_S1_S1_0 (firstTrip.sl.v142_r0 (F := F) c k) (by unfold firstTrip.sl.v142_r0 firstTrip.sl.r; rfl))
    iexact HC
  isplitl [HW]; · iexists _; iexact HW
  isplitl [Hz1 HF1 HF1_dst HF1_src Hr1]
  · isplitl [HF1_src Hr1]
    · isplitl [HF1_src]; · iexact HF1_src
      iexact Hr1
    isplitl [Hz1]; · iexists g1; iexact Hz1
    isplitl [HF1]; · iexact HF1
    iexists _; iexact HF1_dst
  isplitl [Hz2 HF2 HF2_dst HF2_src Hr2]
  · isplitl [HF2_src Hr2]
    · isplitl [HF2_src]; · iexact HF2_src
      iexact Hr2
    isplitl [Hz2]; · iexists g2; iexact Hz2
    isplitl [HF2]; · iexact HF2
    iexists _; iexact HF2_dst
  isplitl [HF3_src Hr3]
  · isplitl [HF3_src]; · iexact HF3_src
    iexact Hr3
  isplitl [Hz3]; · iexists g3; iexact Hz3
  isplitl [HF3]; · iexact HF3
  iexists _; iexact HF3_dst

end Cert.Proof.Moe
-- ==== Proof.Shared.lean ====
/-
  The shared expert's trip, the thirty-third: its weights, sent for before the loop, are awaited and its part is added after the expert's.
-/
module

public import proofs.«01_k».proof.Proof.First

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD)
  (arg0 : Memref sig .tc .vmem S128x1024 .f32) (harg0 : arg0.IsWhole)
  (arg1 : Memref sig .tc .vmem S1024x64 .f32) (harg1 : arg1.IsWhole)
  (arg2 : Memref sig .tc .vmem S1x1024 .f32) (harg2 : arg2.IsWhole)
  (arg9 : Memref sig .tc .vmem S128x1024 .f32) (harg9 : arg9.IsWhole)
  (arg10 : Memref sig .tc .vmem S1x1 .f32) (harg10 : arg10.IsWhole)
  (X1 : Buf (Elt F) (WgM.view.loc (c : Thread nD τ))) (X2 : Buf (Elt F) (WuM.view.loc (c : Thread nD τ)))
  (X3 : Buf (Elt F) (WdM.view.loc (c : Thread nD τ)))
  (v0 : IVec S128x64 32) (v9 : FVec F S128x1024 .bf16)

theorem sharedTrip (k : Fin k0_t1_loop.trips) (h0 : k.val ≠ 0) (h32 : k.val = 32) (h63 : k.val + 1 < 64)
    (Y1 : Buf (Elt F) (SgM.view.loc (c : Thread nD τ))) (Y2 : Buf (Elt F) (SuM.view.loc (c : Thread nD τ)))
    (Y3 : Buf (Elt F) (SdM.view.loc (c : Thread nD τ))) (g : Vec F S1x1024 .f32) (w : Vec F S128x64 .f32) (o : Vec F S128x1024 .f32) :
    iprop(valP c arg9 o ∗ valP c arg2 g ∗ valP c wM w ∗ sharedOut c Y1 Y2 Y3 ∗ heldP c cntM (cntB c k.val) ∗ (∃ W, owes (c : Thread nD τ) 0 W) ∗ rings c X1 X2 X3 k.val)
      ⊢ (wp frame (wpE (defs₀ (F := F)) 𝒱₀ (c : Thread nD τ) none) Set.univ
          (tripG arg0 harg0 arg1 harg1 arg2 harg2 arg9 harg9 arg10 harg10 v0 v9 k)
          (fun r => iprop(⌜r = carried (k.val + 1)⌝
            ∗ valP c arg9 (addShared v9 (SgM.view.read (Elt F) Y1) (SuM.view.read (Elt F) Y2) (SdM.view.read (Elt F) Y3) g
              (addExpert v0 v9 k.val (blkVal c WgM X1 (Ring.bk 64 k.val)) (blkVal c WuM X2 (Ring.bk 64 k.val)) (blkVal c WdM X3 (Ring.bk 64 k.val)) w o))
            ∗ valP c arg2 g ∗ valP c wM w ∗ sharedIn c Y1 Y2 Y3 ∗ heldP c cntM (cntB c (k.val + 1)) ∗ (∃ W, owes (c : Thread nD τ) 0 W) ∗ rings c X1 X2 X3 (k.val + 1))) : sProp 𝕄) := by
  have hk64 : k.val < 64 := by omega
  have hc1 := issue_cond k h63
  have hc2 := issue_cond2 k h63
  have hc3 := issue_cond3 k h63
  have hc4 := wait_cond k
  have hc5 := wait_cond5 k
  have hc6 := wait_cond6 k
  have hk1 := chk1 k
  have hk2 := chk2 k
  have hk3 := chk3 k
  have hk4 := chk4 k
  have hb0 := not_first k h0
  have hb32 := is_shared k h32
  unfold rings
  rw [ring_here c R1 cc0_scoped1 WgM X1 k.val h63, ring_here c R2 cc0_scoped3 WuM X2 k.val h63, ring_here c R3 cc0_scoped5 WdM X3 k.val h63,
    ring_next c R1 cc0_scoped1 WgM X1 k.val h63, ring_next c R2 cc0_scoped3 WuM X2 k.val h63, ring_next c R3 cc0_scoped5 WdM X3 k.val h63]
  unfold valP sharedOut sharedIn
  iintro ⟨⟨%fo, %ho, HO⟩, ⟨%fg, %hg, HG⟩, ⟨%fw, %hw, HWt⟩, ⟨⟨%s1, HQ1⟩, ⟨%s2, HQ2⟩, ⟨%s3, HQ3⟩⟩, HC, ⟨%W, HW⟩, ⟨⟨Hg1, Hr1⟩, ⟨%f1, HF1⟩, Hz1, ⟨%g1, Hs1⟩⟩, ⟨⟨Hg2, Hr2⟩, ⟨%f2, HF2⟩, Hz2, ⟨%g2, Hs2⟩⟩, ⟨⟨Hg3, Hr3⟩, ⟨%f3, HF3⟩, Hz3, ⟨%g3, Hs3⟩⟩⟩
  dsimp only [tripG, carried]
  sl_unfold [k0_t1_body]
  sl_exec
  sl_step
  isplitr
  · ipureintro
    simp only [Prod.mk.injEq]
    clear * -
    revert k
    decide +kernel
  isplitl [HO]
  · iexists _
    isplitr
    rotate_left
    · iexact HO
    · ipureintro
      rw [View.read_writes_full]
      unfold addShared addExpert sharedTrip.sl.v263_r0 sharedTrip.sl.HO_1
      unfold sharedTrip.sl.r sharedTrip.sl.r_1 sharedTrip.sl.r_2 sharedTrip.sl.cst_151_r0
      unfold sharedTrip.sl.v149_r0 sharedTrip.sl.v154_r0 sharedTrip.sl.v159_r0 sharedTrip.sl.v240_r0 sharedTrip.sl.v243_r0 sharedTrip.sl.v250_r0
      rw [load_landed, load_landed, load_landed, load_landed, load_landed, load_landed, View.readCov_full arg9.view,
        View.readAt_full wM.view, View.readAt_full arg9.view, View.readAt_full arg2.view, hw, ho, hg]
      rfl
  isplitl [HG]
  · iexists fg
    isplitr; · ipureintro; exact hg
    iexact HG
  isplitl [HWt]
  · iexists fw
    isplitr; · ipureintro; exact hw
    iexact HWt
  isplitl [HQ1 HQ2 HQ3 HQ1_dst HQ2_dst HQ3_dst HQ1_src HQ2_src HQ3_src]
  · isplitl [HQ1 HQ1_dst HQ1_src]
    · isplitl [HQ1_dst]; · iexists _; iexact HQ1_dst
      isplitl [HQ1_src]; · iexact HQ1_src
      iexact HQ1
    isplitl [HQ2 HQ2_dst HQ2_src]
    · isplitl [HQ2_dst]; · iexists _; iexact HQ2_dst
      isplitl [HQ2_src]; · iexact HQ2_src
      iexact HQ2
    isplitl [HQ3_dst]; · iexists _; iexact HQ3_dst
    isplitl [HQ3_src]; · iexact HQ3_src
    iexact HQ3
  isplitl [HC]
  · iapply (cnt_back (F := F) c k.val (cntB c k.val) inb_S1_S1_0 (sharedTrip.sl.v142_r0 (F := F) c k) (by unfold sharedTrip.sl.v142_r0 sharedTrip.sl.r; rfl))
    iexact HC
  isplitl [HW]; · iexists _; iexact HW
  isplitl [Hz1 HF1 HF1_dst HF1_src Hr1]
  · isplitl [HF1_src Hr1]
    · isplitl [HF1_src]; · iexact HF1_src
      iexact Hr1
    isplitl [Hz1]; · iexists g1; iexact Hz1
    isplitl [HF1]; · iexact HF1
    iexists _; iexact HF1_dst
  isplitl [Hz2 HF2 HF2_dst HF2_src Hr2]
  · isplitl [HF2_src Hr2]
    · isplitl [HF2_src]; · iexact HF2_src
      iexact Hr2
    isplitl [Hz2]; · iexists g2; iexact Hz2
    isplitl [HF2]; · iexact HF2
    iexists _; iexact HF2_dst
  isplitl [HF3_src Hr3]
  · isplitl [HF3_src]; · iexact HF3_src
    iexact Hr3
  isplitl [Hz3]; · iexists g3; iexact Hz3
  isplitl [HF3]; · iexact HF3
  iexists _; iexact HF3_dst

end Cert.Proof.Moe
-- ==== Proof.Last.lean ====
/-
  The last trip: nothing is sent for; every weight is back where it lies and both slots of each ring are free.
-/
module

public import proofs.«01_k».proof.Proof.Shared

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD)
  (arg0 : Memref sig .tc .vmem S128x1024 .f32) (harg0 : arg0.IsWhole)
  (arg1 : Memref sig .tc .vmem S1024x64 .f32) (harg1 : arg1.IsWhole)
  (arg2 : Memref sig .tc .vmem S1x1024 .f32) (harg2 : arg2.IsWhole)
  (arg9 : Memref sig .tc .vmem S128x1024 .f32) (harg9 : arg9.IsWhole)
  (arg10 : Memref sig .tc .vmem S1x1 .f32) (harg10 : arg10.IsWhole)
  (X1 : Buf (Elt F) (WgM.view.loc (c : Thread nD τ))) (X2 : Buf (Elt F) (WuM.view.loc (c : Thread nD τ)))
  (X3 : Buf (Elt F) (WdM.view.loc (c : Thread nD τ)))
  (v0 : IVec S128x64 32) (v9 : FVec F S128x1024 .bf16)

theorem lastTrip (k : Fin k0_t1_loop.trips) (h0 : k.val ≠ 0) (h32 : k.val ≠ 32) (h63 : k.val = 63)
    (w : Vec F S128x64 .f32) (o : Vec F S128x1024 .f32) :
    iprop(valP c arg9 o ∗ valP c wM w ∗ heldP c cntM (cntB c k.val) ∗ (∃ W, owes (c : Thread nD τ) 0 W) ∗ rings c X1 X2 X3 k.val)
      ⊢ (wp frame (wpE (defs₀ (F := F)) 𝒱₀ (c : Thread nD τ) none) Set.univ
          (tripG arg0 harg0 arg1 harg1 arg2 harg2 arg9 harg9 arg10 harg10 v0 v9 k)
          (fun r => iprop(⌜r = carried (k.val + 1)⌝
            ∗ valP c arg9 (addExpert v0 v9 k.val (blkVal c WgM X1 (Ring.bk 64 k.val)) (blkVal c WuM X2 (Ring.bk 64 k.val)) (blkVal c WdM X3 (Ring.bk 64 k.val)) w o)
            ∗ valP c wM w ∗ heldP c cntM (cntB c (k.val + 1)) ∗ (∃ W, owes (c : Thread nD τ) 0 W) ∗ rings c X1 X2 X3 (k.val + 1))) : sProp 𝕄) := by
  have hk64 : k.val < 64 := by omega
  have hc1 := last_cond k (by omega)
  have hc2 := last_cond2 k (by omega)
  have hc3 := last_cond3 k (by omega)
  have hc4 := wait_cond k
  have hc5 := wait_cond5 k
  have hc6 := wait_cond6 k
  have hk1 := chk1 k
  have hk2 := chk2 k
  have hk3 := chk3 k
  have hk4 := chk4 k
  have hb0 := not_first k h0
  have hb32 := not_shared k h32
  unfold rings
  rw [ring_last c R1 cc0_scoped1 WgM X1 k.val h63, ring_last c R2 cc0_scoped3 WuM X2 k.val h63, ring_last c R3 cc0_scoped5 WdM X3 k.val h63,
    ring_done c R1 cc0_scoped1 WgM X1 k.val h63, ring_done c R2 cc0_scoped3 WuM X2 k.val h63, ring_done c R3 cc0_scoped5 WdM X3 k.val h63]
  unfold valP
  iintro ⟨⟨%fo, %ho, HO⟩, ⟨%fw, %hw, HWt⟩, HC, ⟨%W, HW⟩, ⟨Hr1, ⟨%f1, HF1⟩, Hz1, ⟨%g1, Hs1⟩⟩, ⟨Hr2, ⟨%f2, HF2⟩, Hz2, ⟨%g2, Hs2⟩⟩, ⟨Hr3, ⟨%f3, HF3⟩, Hz3, ⟨%g3, Hs3⟩⟩⟩
  dsimp only [tripG, carried]
  sl_unfold [k0_t1_body]
  sl_exec
  sl_step
  isplitr
  · ipureintro
    simp only [Prod.mk.injEq]
    clear * -
    revert k
    decide +kernel
  isplitl [HO]
  · iexists _
    isplitr
    rotate_left
    · iexact HO
    · ipureintro
      rw [View.read_writes_full]
      unfold addExpert lastTrip.sl.r lastTrip.sl.r_1 lastTrip.sl.r_2 lastTrip.sl.cst_151_r0
      unfold lastTrip.sl.v149_r0 lastTrip.sl.v154_r0 lastTrip.sl.v159_r0
      rw [load_landed, load_landed, load_landed, View.readAt_full wM.view, View.readAt_full arg9.view, hw, ho]
      rfl
  isplitl [HWt]
  · iexists fw
    isplitr; · ipureintro; exact hw
    iexact HWt
  isplitl [HC]
  · iapply (cnt_back (F := F) c k.val (cntB c k.val) inb_S1_S1_0 (lastTrip.sl.v142_r0 (F := F) c k) (by unfold lastTrip.sl.v142_r0 lastTrip.sl.r; rfl))
    iexact HC
  isplitl [HW]; · iexists _; iexact HW
  isplitl [Hz1 Hs1 HF1 HF1_dst HF1_src Hr1]
  · isplitl [HF1_src Hr1]
    · isplitl [HF1_src]; · iexact HF1_src
      iexact Hr1
    isplitl [Hz1 Hs1]
    · isplitl [Hz1]; · iexact Hz1
      iexists g1; iexact Hs1
    isplitl [HF1]; · iexact HF1
    iexists _; iexact HF1_dst
  isplitl [Hz2 Hs2 HF2 HF2_dst HF2_src Hr2]
  · isplitl [HF2_src Hr2]
    · isplitl [HF2_src]; · iexact HF2_src
      iexact Hr2
    isplitl [Hz2 Hs2]
    · isplitl [Hz2]; · iexact Hz2
      iexists g2; iexact Hs2
    isplitl [HF2]; · iexact HF2
    iexists _; iexact HF2_dst
  isplitl [HF3_src Hr3]
  · isplitl [HF3_src]; · iexact HF3_src
    iexact Hr3
  isplitl [Hz3 Hs3]
  · isplitl [Hz3]; · iexact Hz3
    iexists g3; iexact Hs3
  isplitl [HF3]; · iexact HF3
  iexists _; iexact HF3_dst

end Cert.Proof.Moe
-- ==== Proof.Loop.lean ====
/-
  The loop: what is held before each of its 64 trips, and that a trip keeps it.
-/
module

public import proofs.«01_k».proof.Proof.Last

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD)
  (arg0 : Memref sig .tc .vmem S128x1024 .f32) (harg0 : arg0.IsWhole)
  (arg1 : Memref sig .tc .vmem S1024x64 .f32) (harg1 : arg1.IsWhole)
  (arg2 : Memref sig .tc .vmem S1x1024 .f32) (harg2 : arg2.IsWhole)
  (arg9 : Memref sig .tc .vmem S128x1024 .f32) (harg9 : arg9.IsWhole)
  (arg10 : Memref sig .tc .vmem S1x1 .f32) (harg10 : arg10.IsWhole)
  (X1 : Buf (Elt F) (WgM.view.loc (c : Thread nD τ))) (X2 : Buf (Elt F) (WuM.view.loc (c : Thread nD τ)))
  (X3 : Buf (Elt F) (WdM.view.loc (c : Thread nD τ)))
  (v0 : IVec S128x64 32) (v9 : FVec F S128x1024 .bf16)

  (Y1 : Buf (Elt F) (SgM.view.loc (c : Thread nD τ))) (Y2 : Buf (Elt F) (SuM.view.loc (c : Thread nD τ)))
  (Y3 : Buf (Elt F) (SdM.view.loc (c : Thread nD τ)))
  (Wg : Vec F S1024x64 .f32) (gate : Vec F S1x1024 .f32) (o0 : Vec F S128x1024 .f32)

/-- The output after trip `k`, from the output `o` before it. -/
def outStep (k : ℕ) (o : Vec F S128x1024 .f32) : FVec F S128x1024 .f32 :=
  if k = 32 then
    addShared v9 (SgM.view.read (Elt F) Y1) (SuM.view.read (Elt F) Y2) (SdM.view.read (Elt F) Y3) gate
      (addExpert v0 v9 k (blkVal c WgM X1 (Ring.bk 64 k)) (blkVal c WuM X2 (Ring.bk 64 k)) (blkVal c WdM X3 (Ring.bk 64 k)) (wts v0 v9 Wg) o)
  else addExpert v0 v9 k (blkVal c WgM X1 (Ring.bk 64 k)) (blkVal c WuM X2 (Ring.bk 64 k)) (blkVal c WdM X3 (Ring.bk 64 k)) (wts v0 v9 Wg) o

/-- The output before trip `k`, begun at `o0`. -/
def outAt : ℕ → Vec F S128x1024 .f32
  | 0 => o0
  | k + 1 => outStep c X1 X2 X3 v0 v9 Y1 Y2 Y3 Wg gate k (outAt k)

/-- The router's results: not there before the first trip, there from then on. -/
def routerP (k : ℕ) : sProp 𝕄 :=
  if k = 0 then iprop(someP c wM ∗ someP c arg10) else iprop(valP c wM (wts v0 v9 Wg) ∗ valP c arg10 (balance v9 Wg))
/-- The shared expert's weights: on their way until trip 32 awaits them. -/
def sharedP (k : ℕ) : sProp 𝕄 := if k ≤ 32 then sharedOut c Y1 Y2 Y3 else sharedIn c Y1 Y2 Y3

/-- What is held before trip `k`. -/
abbrev invP (k : ℕ) : sProp 𝕄 :=
  iprop(valP c arg9 (outAt c X1 X2 X3 v0 v9 Y1 Y2 Y3 Wg gate o0 k) ∗ valP c arg1 Wg ∗ valP c arg2 gate ∗ routerP c arg10 v0 v9 Wg k
    ∗ sharedP c Y1 Y2 Y3 k ∗ heldP c cntM (cntB c k) ∗ (∃ W, owes (c : Thread nD τ) 0 W) ∗ rings c X1 X2 X3 k)

theorem outAt_plain (k : ℕ) (h : k ≠ 32) : outAt c X1 X2 X3 v0 v9 Y1 Y2 Y3 Wg gate o0 (k + 1)
    = addExpert v0 v9 k (blkVal c WgM X1 (Ring.bk 64 k)) (blkVal c WuM X2 (Ring.bk 64 k)) (blkVal c WdM X3 (Ring.bk 64 k)) (wts v0 v9 Wg)
        (outAt c X1 X2 X3 v0 v9 Y1 Y2 Y3 Wg gate o0 k) := by
  rw [outAt, outStep, if_neg h]
theorem outAt_shared (k : ℕ) (h : k = 32) : outAt c X1 X2 X3 v0 v9 Y1 Y2 Y3 Wg gate o0 (k + 1)
    = addShared v9 (SgM.view.read (Elt F) Y1) (SuM.view.read (Elt F) Y2) (SdM.view.read (Elt F) Y3) gate
        (addExpert v0 v9 k (blkVal c WgM X1 (Ring.bk 64 k)) (blkVal c WuM X2 (Ring.bk 64 k)) (blkVal c WdM X3 (Ring.bk 64 k)) (wts v0 v9 Wg)
          (outAt c X1 X2 X3 v0 v9 Y1 Y2 Y3 Wg gate o0 k)) := by
  rw [outAt, outStep, if_pos h]

theorem trip_keeps (k : Fin k0_t1_loop.trips) :
    invP c arg1 arg2 arg9 arg10 X1 X2 X3 v0 v9 Y1 Y2 Y3 Wg gate o0 k.val
      ⊢ (wp frame (wpE (defs₀ (F := F)) 𝒱₀ (c : Thread nD τ) none) Set.univ
          (tripG arg0 harg0 arg1 harg1 arg2 harg2 arg9 harg9 arg10 harg10 v0 v9 k)
          (fun r => iprop(⌜r = carried (k.val + 1)⌝ ∗ invP c arg1 arg2 arg9 arg10 X1 X2 X3 v0 v9 Y1 Y2 Y3 Wg gate o0 (k.val + 1))) : sProp 𝕄) := by
  have hk64 : k.val < 64 := trip_lt k
  unfold invP routerP sharedP
  by_cases h0 : k.val = 0
  · rw [if_pos h0, if_pos (show k.val ≤ 32 by omega), if_neg (show ¬ k.val + 1 = 0 by omega), if_pos (show k.val + 1 ≤ 32 by omega),
      outAt_plain c X1 X2 X3 v0 v9 Y1 Y2 Y3 Wg gate o0 k.val (by omega)]
    iintro ⟨HO, H1, H2, ⟨Hw, H10⟩, Hsh, HC, HW, HR⟩
    iapply (wp_wand_r frame (wpE (defs₀ (F := F)) 𝒱₀ (c : Thread nD τ) none) Set.univ)
    isplitl [HO H1 Hw H10 HC HW HR]
    · iapply (firstTrip c arg0 harg0 arg1 harg1 arg2 harg2 arg9 harg9 arg10 harg10 X1 X2 X3 v0 v9 k h0 (by omega) (by omega) Wg)
      isplitl [HO]; · iexact HO
      isplitl [H1]; · iexact H1
      isplitl [Hw]; · iexact Hw
      isplitl [H10]; · iexact H10
      isplitl [HC]; · iexact HC
      isplitl [HW]; · iexact HW
      iexact HR
    iintro %r ⟨%hr, HO, H1, Hw, H10, HC, HW, HR⟩
    isplitr; · ipureintro; exact hr
    isplitl [HO]; · iexact HO
    isplitl [H1]; · iexact H1
    isplitl [H2]; · iexact H2
    isplitl [Hw H10]
    · isplitl [Hw]; · iexact Hw
      iexact H10
    isplitl [Hsh]; · iexact Hsh
    isplitl [HC]; · iexact HC
    isplitl [HW]; · iexact HW
    iexact HR
  rw [if_neg h0, if_neg (show ¬ k.val + 1 = 0 by omega)]
  by_cases h32 : k.val = 32
  · rw [if_pos (show k.val ≤ 32 by omega), if_neg (show ¬ k.val + 1 ≤ 32 by omega), outAt_shared c X1 X2 X3 v0 v9 Y1 Y2 Y3 Wg gate o0 k.val h32]
    iintro ⟨HO, H1, H2, ⟨Hw, H10⟩, Hsh, HC, HW, HR⟩
    iapply (wp_wand_r frame (wpE (defs₀ (F := F)) 𝒱₀ (c : Thread nD τ) none) Set.univ)
    isplitl [HO H2 Hw Hsh HC HW HR]
    · iapply (sharedTrip c arg0 harg0 arg1 harg1 arg2 harg2 arg9 harg9 arg10 harg10 X1 X2 X3 v0 v9 k h0 h32 (by omega) Y1 Y2 Y3 gate (wts v0 v9 Wg))
      isplitl [HO]; · iexact HO
      isplitl [H2]; · iexact H2
      isplitl [Hw]; · iexact Hw
      isplitl [Hsh]; · iexact Hsh
      isplitl [HC]; · iexact HC
      isplitl [HW]; · iexact HW
      iexact HR
    iintro %r ⟨%hr, HO, H2, Hw, Hsh, HC, HW, HR⟩
    isplitr; · ipureintro; exact hr
    isplitl [HO]; · iexact HO
    isplitl [H1]; · iexact H1
    isplitl [H2]; · iexact H2
    isplitl [Hw H10]
    · isplitl [Hw]; · iexact Hw
      iexact H10
    isplitl [Hsh]; · iexact Hsh
    isplitl [HC]; · iexact HC
    isplitl [HW]; · iexact HW
    iexact HR
  have he : (k.val ≤ 32) = (k.val + 1 ≤ 32) := by apply propext; omega
  simp only [he]
  rw [outAt_plain c X1 X2 X3 v0 v9 Y1 Y2 Y3 Wg gate o0 k.val h32]
  iintro ⟨HO, H1, H2, ⟨Hw, H10⟩, Hsh, HC, HW, HR⟩
  iapply (wp_wand_r frame (wpE (defs₀ (F := F)) 𝒱₀ (c : Thread nD τ) none) Set.univ)
  isplitl [HO Hw HC HW HR]
  · by_cases h63 : k.val = 63
    · iapply (lastTrip c arg0 harg0 arg1 harg1 arg2 harg2 arg9 harg9 arg10 harg10 X1 X2 X3 v0 v9 k h0 h32 h63 (wts v0 v9 Wg))
      isplitl [HO]; · iexact HO
      isplitl [Hw]; · iexact Hw
      isplitl [HC]; · iexact HC
      isplitl [HW]; · iexact HW
      iexact HR
    · iapply (midTrip c arg0 harg0 arg1 harg1 arg2 harg2 arg9 harg9 arg10 harg10 X1 X2 X3 v0 v9 k h0 h32 (by omega) (wts v0 v9 Wg))
      isplitl [HO]; · iexact HO
      isplitl [Hw]; · iexact Hw
      isplitl [HC]; · iexact HC
      isplitl [HW]; · iexact HW
      iexact HR
  iintro %r ⟨%hr, HO, Hw, HC, HW, HR⟩
  isplitr; · ipureintro; exact hr
  isplitl [HO]; · iexact HO
  isplitl [H1]; · iexact H1
  isplitl [H2]; · iexact H2
  isplitl [Hw H10]
  · isplitl [Hw]; · iexact Hw
    iexact H10
  isplitl [Hsh]; · iexact Hsh
  isplitl [HC]; · iexact HC
  isplitl [HW]; · iexact HW
  iexact HR

/-- The loop, from what is held before its first trip. -/
theorem loop_run {β : Type} {kk : _ → Prog (TpuEff nD τ sig (Elt F) Λ₀ .tc) β} {Q : β → sProp 𝕄} :
    invP c arg1 arg2 arg9 arg10 X1 X2 X3 v0 v9 Y1 Y2 Y3 Wg gate o0 0
      ⊢ iprop((invP c arg1 arg2 arg9 arg10 X1 X2 X3 v0 v9 Y1 Y2 Y3 Wg gate o0 64
          -∗ wp frame (wpE (defs₀ (F := F)) 𝒱₀ (c : Thread nD τ) none) Set.univ (kk (carried 64)) Q)
        -∗ wp frame (wpE (defs₀ (F := F)) 𝒱₀ (c : Thread nD τ) none) Set.univ
            (Scf.for k0_t1_loop.lb k0_t1_loop.ub k0_t1_loop.st k0_t1_ok (carried 0)
              (k0_t1_body (F := F) arg0 harg0 arg1 harg1 arg2 harg2 WgM (Memref.isWhole_whole _) WuM (Memref.isWhole_whole _) WdM (Memref.isWhole_whole _)
                SgM (Memref.isWhole_whole _) SuM (Memref.isWhole_whole _) SdM (Memref.isWhole_whole _) arg9 harg9 arg10 harg10
                wM (Memref.isWhole_whole _) SgV (Memref.isWhole_whole _) SuV (Memref.isWhole_whole _) SdV (Memref.isWhole_whole _) cntM (Memref.isWhole_whole _)
                cc0_scratch5 R1 (Memref.isWhole_whole _) cc0_scoped1 R2 (Memref.isWhole_whole _) cc0_scoped3 R3 (Memref.isWhole_whole _) cc0_scoped5
                v0 v9 0#32) >>= kk) Q) := by
  iintro H HK
  iapply (Scf.wp_for_bind frame (wpE (defs₀ (F := F)) 𝒱₀ (c : Thread nD τ) none) Set.univ k0_t1_loop.lb k0_t1_loop.ub k0_t1_loop.st k0_t1_ok (carried 0) _
    (fun k acc => iprop(⌜acc = carried k⌝ ∗ invP c arg1 arg2 arg9 arg10 X1 X2 X3 v0 v9 Y1 Y2 Y3 Wg gate o0 k))
    (fun k acc => by
      iintro ⟨%ha, H⟩
      subst ha
      iapply (trip_keeps c arg0 harg0 arg1 harg1 arg2 harg2 arg9 harg9 arg10 harg10 X1 X2 X3 v0 v9 Y1 Y2 Y3 Wg gate o0 k)
      iexact H)) $$ [H]
  · isplitr; · ipureintro; rfl
    iexact H
  iintro %acc ⟨%ha, H⟩
  subst ha
  iapply HK
  iexact H

end Cert.Proof.Moe
-- ==== Proof.Body.lean ====
/-
  The kernel's body: the sends before the loop, the loop, and what is held at the end.
-/
module

public import proofs.«01_k».proof.Proof.Loop

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD)
  (arg0 : Memref sig .tc .vmem S128x1024 .f32) (harg0 : arg0.IsWhole)
  (arg1 : Memref sig .tc .vmem S1024x64 .f32) (harg1 : arg1.IsWhole)
  (arg2 : Memref sig .tc .vmem S1x1024 .f32) (harg2 : arg2.IsWhole)
  (arg9 : Memref sig .tc .vmem S128x1024 .f32) (harg9 : arg9.IsWhole)
  (arg10 : Memref sig .tc .vmem S1x1 .f32) (harg10 : arg10.IsWhole)
  (X1 : Buf (Elt F) (WgM.view.loc (c : Thread nD τ))) (X2 : Buf (Elt F) (WuM.view.loc (c : Thread nD τ)))
  (X3 : Buf (Elt F) (WdM.view.loc (c : Thread nD τ)))
  (Y1 : Buf (Elt F) (SgM.view.loc (c : Thread nD τ))) (Y2 : Buf (Elt F) (SuM.view.loc (c : Thread nD τ)))
  (Y3 : Buf (Elt F) (SdM.view.loc (c : Thread nD τ)))
  (x : Vec F S128x1024 .f32) (Wg : Vec F S1024x64 .f32) (gate : Vec F S1x1024 .f32)

/-- The kernel's body on the windows' buffers. -/
abbrev bodyG : Prog (TpuEff nD τ sig (Elt F) Λ₀ .tc) PUnit :=
  cc0__moe_kernel (F := F) arg0 harg0 arg1 harg1 arg2 harg2 WgM (Memref.isWhole_whole _) WuM (Memref.isWhole_whole _) WdM (Memref.isWhole_whole _)
    SgM (Memref.isWhole_whole _) SuM (Memref.isWhole_whole _) SdM (Memref.isWhole_whole _) arg9 harg9 arg10 harg10
    wM (Memref.isWhole_whole _) SgV (Memref.isWhole_whole _) SuV (Memref.isWhole_whole _) SdV (Memref.isWhole_whole _) cntM (Memref.isWhole_whole _)
    cc0_scratch5 R1 (Memref.isWhole_whole _) cc0_scoped1 R2 (Memref.isWhole_whole _) cc0_scoped3 R3 (Memref.isWhole_whole _) cc0_scoped5

theorem of_equal {P Q : sProp 𝕄} (h : P = Q) : P ⊢ Q := h ▸ .rfl

section Free

variable (R : Memref sig .tc .vmem S2x1x1024x1024 .f32) (A : DmaSems sig S2) (X : Memref sig .tc .hbm S64x1024x1024 .f32)
  (XA : Buf (Elt F) (X.view.loc (c : Thread nD τ)))

/-- A ring before anything is sent: every block at home, both slots and both semaphores free. -/
def freeP : sProp 𝕄 :=
  iprop(bigSep Finset.univ (homeP c X XA) ∗ ((∃ f, slotP c R 0 f) ∗ restP c (cell A 0)) ∗ ((∃ f, slotP c R 1 f) ∗ restP c (cell A 1)))

theorem homes_split :
    bigSep Finset.univ (homeP c X XA) = iprop(homeP c X XA (Ring.bk 64 0) ∗ homeP c X XA (Ring.bk 64 1) ∗ bigSep ((Ring.homeSet 1 0).erase (Ring.bk 64 1)) (homeP c X XA)) := by
  have e : (Finset.univ : Finset (Fin 64)) = insert (Ring.bk 64 0) (insert (Ring.bk 64 1) ((Ring.homeSet 1 0).erase (Ring.bk 64 1))) := by decide +kernel
  rw [e, bigSep_insert (by decide +kernel), bigSep_insert (by decide +kernel)]; rfl

theorem homes_end : iprop(homeP c X XA (Ring.bk 64 63) ∗ bigSep (Ring.homeSet 1 63) (homeP c X XA)) = bigSep Finset.univ (homeP c X XA) := by
  have e : (Finset.univ : Finset (Fin 64)) = insert (Ring.bk 64 63) (Ring.homeSet 1 63) := by decide +kernel
  rw [e, bigSep_insert (by decide +kernel)]; rfl

theorem ring_begin :
    iprop((homeP c X XA (Ring.bk 64 1) ∗ bigSep ((Ring.homeSet 1 0).erase (Ring.bk 64 1)) (homeP c X XA))
          ∗ (∃ f, flightP c R A X XA 0 (Ring.bk 64 0) f) ∗ (restP c (cell A 1) ∗ ∃ f, slotP c R 1 f)) ⊢ ringP c R A X XA 0 := by
  rw [ring_here c R A X XA 0 (by decide), show Ring.sl 2 0 = 0 from rfl, show Ring.sl 2 (0 + 1) = 1 from rfl]

theorem ring_end : ringP c R A X XA 64 ⊢ freeP c R A X XA := by
  rw [show (64 : ℕ) = 63 + 1 from rfl, ring_done c R A X XA 63 rfl, show Ring.sl 2 (63 + 1) = 0 from rfl, show Ring.sl 2 63 = 1 from rfl, homes_end]
  unfold freeP
  iintro ⟨H, ⟨H1, H2⟩, ⟨H3, H4⟩⟩
  isplitl [H]; · iexact H
  isplitl [H1 H2]
  · isplitl [H2]; · iexact H2
    iexact H1
  isplitl [H4]; · iexact H4
  iexact H3

end Free

/-- What the body is handed. -/
def preP (W : Waits sig Unit) : sProp 𝕄 :=
  iprop(valP c arg0 x ∗ valP c arg1 Wg ∗ valP c arg2 gate ∗ someP c arg9 ∗ someP c arg10
    ∗ (someP c wM ∗ someP c cntM)
    ∗ ((someP c SgV ∗ heldP c SgM Y1 ∗ restP c (scell 0)) ∗ (someP c SuV ∗ heldP c SuM Y2 ∗ restP c (scell 1)) ∗ (someP c SdV ∗ heldP c SdM Y3 ∗ restP c (scell 2)))
    ∗ (freeP c R1 cc0_scoped1 WgM X1 ∗ freeP c R2 cc0_scoped3 WuM X2 ∗ freeP c R3 cc0_scoped5 WdM X3) ∗ owes (c : Thread nD τ) 0 W)

/-- Lane `j`'s number in each of the rows. -/
abbrev lanes : IVec S128x64 32 := iota .tc S128x64 32 [1] iota_S128x64_d1_w32

/-- What it hands back. -/
def postP : sProp 𝕄 :=
  iprop(valP c arg0 x ∗ valP c arg1 Wg ∗ valP c arg2 gate
    ∗ valP c arg9 (outAt c X1 X2 X3 lanes (k0_pay24 x) Y1 Y2 Y3 Wg gate k0_pay25 64) ∗ valP c arg10 (balance (k0_pay24 x) Wg)
    ∗ (someP c wM ∗ someP c cntM) ∗ sharedIn c Y1 Y2 Y3
    ∗ (freeP c R1 cc0_scoped1 WgM X1 ∗ freeP c R2 cc0_scoped3 WuM X2 ∗ freeP c R3 cc0_scoped5 WdM X3) ∗ ∃ W, owes (c : Thread nD τ) 0 W)

theorem bodyRun (W : Waits sig Unit) (Q : PUnit → sProp 𝕄) :
    iprop(preP c arg0 arg1 arg2 arg9 arg10 X1 X2 X3 Y1 Y2 Y3 x Wg gate W
        ∗ (postP c arg0 arg1 arg2 arg9 arg10 X1 X2 X3 Y1 Y2 Y3 x Wg gate -∗ Q ⟨⟩))
      ⊢ (wp frame (wpE (defs₀ (F := F)) 𝒱₀ (c : Thread nD τ) none) Set.univ (bodyG arg0 harg0 arg1 harg1 arg2 harg2 arg9 harg9 arg10 harg10) Q) := by
  unfold preP freeP
  rw [homes_split, homes_split, homes_split]
  unfold valP
  iintro ⟨⟨⟨%f0, %h0, H0⟩, ⟨%f1, %h1, H1⟩, ⟨%f2, %h2, H2⟩, ⟨%f9, H9⟩, ⟨%f10, H10⟩, ⟨⟨%fw, Hw⟩, ⟨%fc, Hc⟩⟩,
    ⟨⟨⟨%s1, HV1⟩, HM1, HS1⟩, ⟨⟨%s2, HV2⟩, HM2, HS2⟩, ⟨⟨%s3, HV3⟩, HM3, HS3⟩⟩,
    ⟨⟨⟨Ha1, Hb1, Hr1⟩, ⟨⟨%z1, Hz1⟩, Hx1⟩, ⟨Ho1, Hy1⟩⟩, ⟨⟨Ha2, Hb2, Hr2⟩, ⟨⟨%z2, Hz2⟩, Hx2⟩, ⟨Ho2, Hy2⟩⟩, ⟨⟨Ha3, Hb3, Hr3⟩, ⟨⟨%z3, Hz3⟩, Hx3⟩, ⟨Ho3, Hy3⟩⟩⟩, HW⟩, Hk⟩
  sl_exec
  rw [show bodyRun.sl.r_1 arg0 f0 = k0_pay24 x by
    unfold bodyRun.sl.r_1; rw [View.readAt_full arg0.view, h0]]
  unfold bodyRun.sl.v0 Scf.Loop.for
  iapply (loop_run (F := F) c arg0 harg0 arg1 harg1 arg2 harg2 arg9 harg9 arg10 harg10 X1 X2 X3 lanes (k0_pay24 x) Y1 Y2 Y3 Wg gate k0_pay25)
    $$ [H1 H2 H9 H10 Hw Hc Hb1 Hr1 Ho1 Hy1 Hb2 Hr2 Ho2 Hy2 Hb3 Hr3 Ho3 Hy3 HW HS1 HS2 HS3 Hx1 Hx2 Hx3]
  · unfold invP routerP sharedP
    rw [if_pos rfl, if_pos (Nat.zero_le 32), outAt]
    isplitl [H9]
    · iapply (valP_intro c arg9 _ _ (show arg9.view.read (Elt F) (arg9.view.writes (Elt F) arg9.view.junk bodyRun.sl.H9_1) = _ by
        unfold bodyRun.sl.H9_1; rw [View.read_writes_full]))
      iexact H9
    isplitl [H1]; · iapply (valP_intro c arg1 _ _ h1); iexact H1
    isplitl [H2]; · iapply (valP_intro c arg2 _ _ h2); iexact H2
    isplitl [Hw H10]
    · isplitl [Hw]; · iexists _; iexact Hw
      iexists _; iexact H10
    isplitl [HS1 HS2 HS3]
    · unfold sharedOut
      isplitl [HS1]; · iexists s1; iexact HS1
      isplitl [HS2]; · iexists s2; iexact HS2
      iexists s3; iexact HS3
    isplitl [Hc]
    · iapply (of_equal (congrArg (heldP c cntM) (show cntM.view.writes (Elt F) cntM.view.junk bodyRun.sl.Hc_1 = cntB c 0 by
        unfold bodyRun.sl.Hc_1; exact cnt_store c _ _ _)))
      iexact Hc
    isplitl [HW]; · iexists W; iexact HW
    isplitl [Hb1 Hr1 Hx1 Hy1 Ho1]
    · iapply (ring_begin c R1 cc0_scoped1 WgM X1)
      isplitl [Hb1 Hr1]
      · isplitl [Hb1]; · iexact Hb1
        iexact Hr1
      isplitl [Hx1]; · iexists z1; iexact Hx1
      isplitl [Hy1]; · iexact Hy1
      iexact Ho1
    isplitl [Hb2 Hr2 Hx2 Hy2 Ho2]
    · iapply (ring_begin c R2 cc0_scoped3 WuM X2)
      isplitl [Hb2 Hr2]
      · isplitl [Hb2]; · iexact Hb2
        iexact Hr2
      isplitl [Hx2]; · iexists z2; iexact Hx2
      isplitl [Hy2]; · iexact Hy2
      iexact Ho2
    · iapply (ring_begin c R3 cc0_scoped5 WdM X3)
      isplitl [Hb3 Hr3]
      · isplitl [Hb3]; · iexact Hb3
        iexact Hr3
      isplitl [Hx3]; · iexists z3; iexact Hx3
      isplitl [Hy3]; · iexact Hy3
      iexact Ho3
  unfold invP routerP sharedP
  rw [if_neg (show ¬ 64 = 0 by decide), if_neg (show ¬ 64 ≤ 32 by decide)]
  iintro ⟨HO, H1, H2, ⟨Hw, H10⟩, Hsh, Hc, HW, HR1, HR2, HR3⟩
  dsimp only [carried]
  sl_step
  iapply Hk
  unfold postP
  isplitl [H0]; · iapply (valP_intro c arg0 _ _ h0); iexact H0
  isplitl [H1]; · iexact H1
  isplitl [H2]; · iexact H2
  isplitl [HO]; · iexact HO
  isplitl [H10]; · iexact H10
  isplitl [Hw Hc]
  · isplitl [Hw]
    · unfold valP
      icases Hw with ⟨%fw', -, Hw⟩
      iexists fw'; iexact Hw
    iexists _; iexact Hc
  isplitl [Hsh]; · iexact Hsh
  isplitl [HR1 HR2 HR3]
  · isplitl [HR1]; · iapply (ring_end c R1 cc0_scoped1 WgM X1); iexact HR1
    isplitl [HR2]; · iapply (ring_end c R2 cc0_scoped3 WuM X2); iexact HR2
    iapply (ring_end c R3 cc0_scoped5 WdM X3); iexact HR3
  iexact HW

end Cert.Proof.Moe
-- ==== Proof.Buffers.lean ====
/-
  Whole buffers as rings: a stack of weights is its 64 blocks, a ring's buffer is its two slots.
-/
module

public import proofs.«01_k».proof.Proof.Body
public import Idealize.ShloMosaic.Lib.Ring

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## A stack is its blocks -/

abbrev B64 (b : Fin 64) : Finset S64x1024x1024.Idx := (Rect.unit (s := S64x1024x1024) (blkOff b) S1x1024x1024.size (blkOff_inb b)).set
abbrev T2 (s : Fin 2) : Finset S2x1x1024x1024.Idx := (Rect.unit (s := S2x1x1024x1024) (slotOff s) S1x1x1024x1024.size (slotOff_inb s)).set

theorem mem_B64 (b : Fin 64) (y : S64x1024x1024.Idx) : y ∈ B64 b ↔ (y 0).val = b.val := by
  rw [Rect.mem_set_unit]
  have h1 : (y 1).val < 1024 := (y 1).isLt
  have h2 : (y 2).val < 1024 := (y 2).isLt
  refine ⟨fun H => ?_, fun H i => ?_⟩
  · have a0 : b.val ≤ (y 0).val ∧ (y 0).val < b.val + 1 := H 0
    omega
  · fin_cases i
    · show b.val ≤ (y 0).val ∧ (y 0).val < b.val + 1; omega
    · show 0 ≤ (y 1).val ∧ (y 1).val < 0 + 1024; omega
    · show 0 ≤ (y 2).val ∧ (y 2).val < 0 + 1024; omega

theorem mem_T2 (s : Fin 2) (y : S2x1x1024x1024.Idx) : y ∈ T2 s ↔ (y 0).val = s.val := by
  rw [Rect.mem_set_unit]
  have h1 : (y 1).val < 1 := (y 1).isLt
  have h2 : (y 2).val < 1024 := (y 2).isLt
  have h3 : (y 3).val < 1024 := (y 3).isLt
  refine ⟨fun H => ?_, fun H i => ?_⟩
  · have a0 : s.val ≤ (y 0).val ∧ (y 0).val < s.val + 1 := H 0
    omega
  · fin_cases i
    · show s.val ≤ (y 0).val ∧ (y 0).val < s.val + 1; omega
    · show 0 ≤ (y 1).val ∧ (y 1).val < 0 + 1; omega
    · show 0 ≤ (y 2).val ∧ (y 2).val < 0 + 1024; omega
    · show 0 ≤ (y 3).val ∧ (y 3).val < 0 + 1024; omega

theorem B64_apart : ∀ b b' : Fin 64, b ≠ b' → Disjoint (B64 b) (B64 b') := fun b b' hne =>
  Finset.disjoint_left.mpr fun y hy hy' => hne (Fin.ext (((mem_B64 b y).mp hy).symm.trans ((mem_B64 b' y).mp hy')))
theorem B64_all : (Finset.univ : Finset (Fin 64)).biUnion B64 = Finset.univ :=
  Finset.eq_univ_iff_forall.mpr fun y => Finset.mem_biUnion.mpr ⟨⟨(y 0).val, (y 0).isLt⟩, Finset.mem_univ _, (mem_B64 _ y).mpr rfl⟩
theorem T2_apart : ∀ s s' : Fin 2, s ≠ s' → Disjoint (T2 s) (T2 s') := fun s s' hne =>
  Finset.disjoint_left.mpr fun y hy hy' => hne (Fin.ext (((mem_T2 s y).mp hy).symm.trans ((mem_T2 s' y).mp hy')))
theorem T2_all : (Finset.univ : Finset (Fin 2)).biUnion T2 = Finset.univ :=
  Finset.eq_univ_iff_forall.mpr fun y => Finset.mem_biUnion.mpr ⟨⟨(y 0).val, (y 0).isLt⟩, Finset.mem_univ _, (mem_T2 _ y).mpr rfl⟩

variable (c : Dev nD)

theorem stack_blocks1 (f : Buf (Elt F) ((c : Thread nD τ).loc main_arg2)) :
    (((c : Thread nD τ).loc main_arg2) ↦{fullShare} f : sProp 𝕄) = bigSep Finset.univ (homeP c WgM f) := by
  rw [Ring.pointsTo_blocks (ℓ := (c : Thread nD τ).loc main_arg2) B64 B64_apart B64_all]
  refine bigSep_congr fun b _ => ?_
  have e : (blk WgM b).view.set = B64 b := (View.set_slice_whole _ _)
  show _ = (blk WgM b).view.loc (c : Thread nD τ) ↦[(blk WgM b).view.set]{fullShare} f
  rw [e]; rfl
theorem stack_blocks2 (f : Buf (Elt F) ((c : Thread nD τ).loc main_arg3)) :
    (((c : Thread nD τ).loc main_arg3) ↦{fullShare} f : sProp 𝕄) = bigSep Finset.univ (homeP c WuM f) := by
  rw [Ring.pointsTo_blocks (ℓ := (c : Thread nD τ).loc main_arg3) B64 B64_apart B64_all]
  refine bigSep_congr fun b _ => ?_
  have e : (blk WuM b).view.set = B64 b := (View.set_slice_whole _ _)
  show _ = (blk WuM b).view.loc (c : Thread nD τ) ↦[(blk WuM b).view.set]{fullShare} f
  rw [e]; rfl
theorem stack_blocks3 (f : Buf (Elt F) ((c : Thread nD τ).loc main_arg4)) :
    (((c : Thread nD τ).loc main_arg4) ↦{fullShare} f : sProp 𝕄) = bigSep Finset.univ (homeP c WdM f) := by
  rw [Ring.pointsTo_blocks (ℓ := (c : Thread nD τ).loc main_arg4) B64 B64_apart B64_all]
  refine bigSep_congr fun b _ => ?_
  have e : (blk WdM b).view.set = B64 b := (View.set_slice_whole _ _)
  show _ = (blk WdM b).view.loc (c : Thread nD τ) ↦[(blk WdM b).view.set]{fullShare} f
  rw [e]; rfl

/-! ## A ring's buffer is its two slots -/

theorem two_parts (P : Fin 2 → sProp 𝕄) : bigSep Finset.univ P = iprop(P 0 ∗ P 1) :=
  bigSep_univ_eq_bigSepL [(0 : Fin 2), (1 : Fin 2)] (by decide) (by decide) P

theorem ring_slot1 (s : Fin 2) (f : Buf (Elt F) ((c : Thread nD τ).loc cc0_scoped0)) :
    slotP c R1 s f = (((c : Thread nD τ).loc cc0_scoped0) ↦[T2 s]{fullShare} f : sProp 𝕄) := by
  have e : (slot R1 s).view.set = T2 s := (View.set_reshape _ _).trans (View.set_slice_whole _ _)
  unfold slotP; rw [e]; rfl
theorem ring_open1 : iprop(∃ f : Buf (Elt F) ((c : Thread nD τ).loc cc0_scoped0), ((c : Thread nD τ).loc cc0_scoped0) ↦{fullShare} f)
    ⊢ (iprop((∃ f, slotP c R1 0 f) ∗ ∃ f, slotP c R1 1 f) : sProp 𝕄) := by
  iintro ⟨%f, H⟩
  ihave H2 := (of_equal ((Ring.pointsTo_blocks (Ix := Unit) (Name := ℕ) (U := UU nD τ) (Lvl := ℕ) (q := fullShare)
    (ℓ := (c : Thread nD τ).loc cc0_scoped0) T2 T2_apart T2_all f).trans (two_parts _))) $$ H
  icases H2 with ⟨Ha, Hb⟩
  isplitl [Ha]
  · iexists f; iapply (of_equal (ring_slot1 c 0 f).symm); iexact Ha
  · iexists f; iapply (of_equal (ring_slot1 c 1 f).symm); iexact Hb
theorem ring_close1 : iprop((∃ f, slotP c R1 0 f) ∗ ∃ f, slotP c R1 1 f)
    ⊢ (iprop(∃ f : Buf (Elt F) ((c : Thread nD τ).loc cc0_scoped0), ((c : Thread nD τ).loc cc0_scoped0) ↦{fullShare} f) : sProp 𝕄) := by
  iintro ⟨⟨%f, Ha⟩, ⟨%g, Hb⟩⟩
  iapply (Ring.pointsTo_blocks_join_exists (ℓ := (c : Thread nD τ).loc cc0_scoped0) T2 T2_apart T2_all f)
  irw [two_parts]
  isplitl [Ha]
  · iexists f; iapply (of_equal (ring_slot1 c 0 f)); iexact Ha
  · iexists g; iapply (of_equal (ring_slot1 c 1 g)); iexact Hb
theorem ring_slot2 (s : Fin 2) (f : Buf (Elt F) ((c : Thread nD τ).loc cc0_scoped2)) :
    slotP c R2 s f = (((c : Thread nD τ).loc cc0_scoped2) ↦[T2 s]{fullShare} f : sProp 𝕄) := by
  have e : (slot R2 s).view.set = T2 s := (View.set_reshape _ _).trans (View.set_slice_whole _ _)
  unfold slotP; rw [e]; rfl
theorem ring_open2 : iprop(∃ f : Buf (Elt F) ((c : Thread nD τ).loc cc0_scoped2), ((c : Thread nD τ).loc cc0_scoped2) ↦{fullShare} f)
    ⊢ (iprop((∃ f, slotP c R2 0 f) ∗ ∃ f, slotP c R2 1 f) : sProp 𝕄) := by
  iintro ⟨%f, H⟩
  ihave H2 := (of_equal ((Ring.pointsTo_blocks (Ix := Unit) (Name := ℕ) (U := UU nD τ) (Lvl := ℕ) (q := fullShare)
    (ℓ := (c : Thread nD τ).loc cc0_scoped2) T2 T2_apart T2_all f).trans (two_parts _))) $$ H
  icases H2 with ⟨Ha, Hb⟩
  isplitl [Ha]
  · iexists f; iapply (of_equal (ring_slot2 c 0 f).symm); iexact Ha
  · iexists f; iapply (of_equal (ring_slot2 c 1 f).symm); iexact Hb
theorem ring_close2 : iprop((∃ f, slotP c R2 0 f) ∗ ∃ f, slotP c R2 1 f)
    ⊢ (iprop(∃ f : Buf (Elt F) ((c : Thread nD τ).loc cc0_scoped2), ((c : Thread nD τ).loc cc0_scoped2) ↦{fullShare} f) : sProp 𝕄) := by
  iintro ⟨⟨%f, Ha⟩, ⟨%g, Hb⟩⟩
  iapply (Ring.pointsTo_blocks_join_exists (ℓ := (c : Thread nD τ).loc cc0_scoped2) T2 T2_apart T2_all f)
  irw [two_parts]
  isplitl [Ha]
  · iexists f; iapply (of_equal (ring_slot2 c 0 f)); iexact Ha
  · iexists g; iapply (of_equal (ring_slot2 c 1 g)); iexact Hb
theorem ring_slot3 (s : Fin 2) (f : Buf (Elt F) ((c : Thread nD τ).loc cc0_scoped4)) :
    slotP c R3 s f = (((c : Thread nD τ).loc cc0_scoped4) ↦[T2 s]{fullShare} f : sProp 𝕄) := by
  have e : (slot R3 s).view.set = T2 s := (View.set_reshape _ _).trans (View.set_slice_whole _ _)
  unfold slotP; rw [e]; rfl
theorem ring_open3 : iprop(∃ f : Buf (Elt F) ((c : Thread nD τ).loc cc0_scoped4), ((c : Thread nD τ).loc cc0_scoped4) ↦{fullShare} f)
    ⊢ (iprop((∃ f, slotP c R3 0 f) ∗ ∃ f, slotP c R3 1 f) : sProp 𝕄) := by
  iintro ⟨%f, H⟩
  ihave H2 := (of_equal ((Ring.pointsTo_blocks (Ix := Unit) (Name := ℕ) (U := UU nD τ) (Lvl := ℕ) (q := fullShare)
    (ℓ := (c : Thread nD τ).loc cc0_scoped4) T2 T2_apart T2_all f).trans (two_parts _))) $$ H
  icases H2 with ⟨Ha, Hb⟩
  isplitl [Ha]
  · iexists f; iapply (of_equal (ring_slot3 c 0 f).symm); iexact Ha
  · iexists f; iapply (of_equal (ring_slot3 c 1 f).symm); iexact Hb
theorem ring_close3 : iprop((∃ f, slotP c R3 0 f) ∗ ∃ f, slotP c R3 1 f)
    ⊢ (iprop(∃ f : Buf (Elt F) ((c : Thread nD τ).loc cc0_scoped4), ((c : Thread nD τ).loc cc0_scoped4) ↦{fullShare} f) : sProp 𝕄) := by
  iintro ⟨⟨%f, Ha⟩, ⟨%g, Hb⟩⟩
  iapply (Ring.pointsTo_blocks_join_exists (ℓ := (c : Thread nD τ).loc cc0_scoped4) T2 T2_apart T2_all f)
  irw [two_parts]
  isplitl [Ha]
  · iexists f; iapply (of_equal (ring_slot3 c 0 f)); iexact Ha
  · iexists g; iapply (of_equal (ring_slot3 c 1 g)); iexact Hb

end Cert.Proof.Moe
-- ==== Proof.Launch.lean ====
/-
  The launch: what one grid point keeps is carried from the call's entry to its exit, and @main is run from any memory.
-/
module

public import proofs.«01_k».proof.Proof.Buffers
public import proofs.«01_k».proof.Proof.Gen.KernelIdeal.Frame

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

open Idealize.ShloMosaic.Pipeline (Dat Cfg Window BodyObligation)

variable (m : (ℓ : Loc nD τ sig) → Buf (Elt F) ℓ) (ρ : Dev nD → PrngReg)

/-! ## The kernel's own semaphores and moved -/

/-- The three semaphores of the shared expert and the two of each ring. -/
def osem : Fin 9 → SemLoc sig :=
  ![.dma (scell 0).sem, .dma (scell 1).sem, .dma (scell 2).sem, .dma (cell cc0_scoped1 0).sem, .dma (cell cc0_scoped1 1).sem,
    .dma (cell cc0_scoped3 0).sem, .dma (cell cc0_scoped3 1).sem, .dma (cell cc0_scoped5 0).sem, .dma (cell cc0_scoped5 1).sem]

theorem osem_own : Pipeline.OwnSemFacts spec0 osem := by decide

/-- The weights the body copies by itself. -/
def moved : Finset (Ref sig .tc) := {main_arg2, main_arg3, main_arg4, main_arg5, main_arg6, main_arg7}

theorem moved_rest : moved ⊆ Pipeline.restRefs sig spec0 := by decide

theorem osem_zero (c : Dev nD) : (Pipeline.ownSems0 (Ix := Unit) (Name := ℕ) (U := UU nD τ) (Lvl := ℕ) (Val := Elt F) (τ := τ) osem c : sProp 𝕄)
    = iprop(restP c (scell 0) ∗ restP c (scell 1) ∗ restP c (scell 2) ∗ restP c (cell cc0_scoped1 0) ∗ restP c (cell cc0_scoped1 1)
        ∗ restP c (cell cc0_scoped3 0) ∗ restP c (cell cc0_scoped3 1) ∗ restP c (cell cc0_scoped5 0) ∗ restP c (cell cc0_scoped5 1)) := by
  rw [Pipeline.ownSems0_eq_of_list c osem [0, 1, 2, 3, 4, 5, 6, 7, 8] (by decide) (by decide)]; rfl

theorem moved_parts (c : Dev nD) (V : (b : Ref sig .tc) → Buf (Elt F) ((c.tc : Thread nD τ).loc b)) :
    (bigSep moved fun b => ((c.tc : Thread nD τ).loc b) ↦{fullShare} V b : sProp 𝕄)
      = iprop((((c.tc : Thread nD τ).loc main_arg2) ↦{fullShare} V main_arg2) ∗ (((c.tc : Thread nD τ).loc main_arg3) ↦{fullShare} V main_arg3)
          ∗ (((c.tc : Thread nD τ).loc main_arg4) ↦{fullShare} V main_arg4) ∗ heldP c SgM (V main_arg5) ∗ heldP c SuM (V main_arg6)
          ∗ heldP c SdM (V main_arg7)) := by
  rw [BI.bigSep_eq_bigSepL_of_eq [main_arg2, main_arg3, main_arg4, main_arg5, main_arg6, main_arg7] (by decide) (by decide)]
  simp only [heldP, Memref.view_whole, View.set_whole]; rfl

/-! ## What is carried through the call -/

/-- What the body finds and leaves besides its windows. -/
def Φ (c : Dev nD) : sProp 𝕄 :=
  iprop((freeP c R1 cc0_scoped1 WgM (V m c main_arg2) ∗ freeP c R2 cc0_scoped3 WuM (V m c main_arg3) ∗ freeP c R3 cc0_scoped5 WdM (V m c main_arg4))
    ∗ sharedIn c (V m c main_arg5) (V m c main_arg6) (V m c main_arg7) ∗ (someP c wM ∗ someP c cntM) ∗ (∃ r, prngReg c r))

theorem scratch_parts (c : Dev nD) :
    (Pipeline.scopedRest (Ix := Unit) (Name := ℕ) (U := UU nD τ) (Lvl := ℕ) (Val := Elt F) spec0 c : sProp 𝕄)
      = iprop(someP c wM ∗ someP c SgV ∗ someP c SuV ∗ someP c SdV
          ∗ (∃ f : Buf (Elt F) ((c : Thread nD τ).loc cc0_scoped0), ((c : Thread nD τ).loc cc0_scoped0) ↦{fullShare} f)
          ∗ (∃ f : Buf (Elt F) ((c : Thread nD τ).loc cc0_scoped2), ((c : Thread nD τ).loc cc0_scoped2) ↦{fullShare} f)
          ∗ (∃ f : Buf (Elt F) ((c : Thread nD τ).loc cc0_scoped4), ((c : Thread nD τ).loc cc0_scoped4) ↦{fullShare} f)
          ∗ someP c cntM) := by
  rw [scopedRest0_eq]
  simp only [someP, heldP, Memref.view_whole, View.set_whole]

theorem Φ_enter (c : Dev nD) : Pipeline.ΦD osem spec0 moved (fun c b => V m c b) c ⊢ Φ m c := by
  rw [Pipeline.ΦD_eq, scratch_parts, osem_zero, moved_parts, stack_blocks1, stack_blocks2, stack_blocks3]
  unfold Φ sharedIn freeP
  iintro ⟨⟨Hw, Hs1, Hs2, Hs3, Hr1, Hr2, Hr3, Hc⟩, Hg, ⟨Ha, Hb, Hd, Hx1, Hy1, Hx2, Hy2, Hx3, Hy3⟩, H2, H3, H4, H5, H6, H7⟩
  ihave Hz1 := (ring_open1 c) $$ Hr1
  ihave Hz2 := (ring_open2 c) $$ Hr2
  ihave Hz3 := (ring_open3 c) $$ Hr3
  icases Hz1 with ⟨Ho1, Hp1⟩
  icases Hz2 with ⟨Ho2, Hp2⟩
  icases Hz3 with ⟨Ho3, Hp3⟩
  isplitl [Ho1 Hp1 Hx1 Hy1 H2 Ho2 Hp2 Hx2 Hy2 H3 Ho3 Hp3 Hx3 Hy3 H4]
  · isplitl [Ho1 Hp1 Hx1 Hy1 H2]
    · isplitl [H2]; · iexact H2
      isplitl [Ho1 Hx1]
      · isplitl [Ho1]; · iexact Ho1
        iexact Hx1
      isplitl [Hp1]; · iexact Hp1
      iexact Hy1
    isplitl [Ho2 Hp2 Hx2 Hy2 H3]
    · isplitl [H3]; · iexact H3
      isplitl [Ho2 Hx2]
      · isplitl [Ho2]; · iexact Ho2
        iexact Hx2
      isplitl [Hp2]; · iexact Hp2
      iexact Hy2
    · isplitl [H4]; · iexact H4
      isplitl [Ho3 Hx3]
      · isplitl [Ho3]; · iexact Ho3
        iexact Hx3
      isplitl [Hp3]; · iexact Hp3
      iexact Hy3
  isplitl [Hs1 H5 Ha Hs2 H6 Hb Hs3 H7 Hd]
  · isplitl [Hs1 H5 Ha]
    · isplitl [Hs1]; · iexact Hs1
      isplitl [H5]; · iexact H5
      iexact Ha
    isplitl [Hs2 H6 Hb]
    · isplitl [Hs2]; · iexact Hs2
      isplitl [H6]; · iexact H6
      iexact Hb
    isplitl [Hs3]; · iexact Hs3
    isplitl [H7]; · iexact H7
    iexact Hd
  isplitl [Hw Hc]
  · isplitl [Hw]; · iexact Hw
    iexact Hc
  iexact Hg

theorem Φ_leave (c : Dev nD) : Φ m c ⊢ Pipeline.ΦD osem spec0 moved (fun c b => V m c b) c := by
  rw [Pipeline.ΦD_eq, scratch_parts, osem_zero, moved_parts, stack_blocks1, stack_blocks2, stack_blocks3]
  unfold Φ sharedIn freeP
  iintro ⟨⟨⟨H2, ⟨Ho1, Hx1⟩, ⟨Hp1, Hy1⟩⟩, ⟨H3, ⟨Ho2, Hx2⟩, ⟨Hp2, Hy2⟩⟩, ⟨H4, ⟨Ho3, Hx3⟩, ⟨Hp3, Hy3⟩⟩⟩,
    ⟨⟨Hs1, H5, Ha⟩, ⟨Hs2, H6, Hb⟩, ⟨Hs3, H7, Hd⟩⟩, ⟨Hw, Hc⟩, Hg⟩
  isplitl [Hw Hs1 Hs2 Hs3 Ho1 Hp1 Ho2 Hp2 Ho3 Hp3 Hc]
  · isplitl [Hw]; · iexact Hw
    isplitl [Hs1]; · iexact Hs1
    isplitl [Hs2]; · iexact Hs2
    isplitl [Hs3]; · iexact Hs3
    isplitl [Ho1 Hp1]
    · iapply (ring_close1 c)
      isplitl [Ho1]; · iexact Ho1
      iexact Hp1
    isplitl [Ho2 Hp2]
    · iapply (ring_close2 c)
      isplitl [Ho2]; · iexact Ho2
      iexact Hp2
    isplitl [Ho3 Hp3]
    · iapply (ring_close3 c)
      isplitl [Ho3]; · iexact Ho3
      iexact Hp3
    iexact Hc
  isplitl [Hg]; · iexact Hg
  isplitl [Ha Hb Hd Hx1 Hy1 Hx2 Hy2 Hx3 Hy3]
  · isplitl [Ha]; · iexact Ha
    isplitl [Hb]; · iexact Hb
    isplitl [Hd]; · iexact Hd
    isplitl [Hx1]; · iexact Hx1
    isplitl [Hy1]; · iexact Hy1
    isplitl [Hx2]; · iexact Hx2
    isplitl [Hy2]; · iexact Hy2
    isplitl [Hx3]; · iexact Hx3
    iexact Hy3
  isplitl [H2]; · iexact H2
  isplitl [H3]; · iexact H3
  isplitl [H4]; · iexact H4
  isplitl [H5]; · iexact H5
  isplitl [H6]; · iexact H6
  iexact H7

/-! ## The windows before and after the body -/

/-- What the body leaves in the first result's window. -/
def leftO (c : Dev nD) (t : Fin cfg0.N) : Vec F S128x1024 .f32 :=
  outAt c (V m c main_arg2) (V m c main_arg3) (V m c main_arg4) lanes (k0_pay24 (iblk m c 0 t))
    (V m c main_arg5) (V m c main_arg6) (V m c main_arg7) (iblk m c 1 t) (iblk m c 2 t) k0_pay25 64
/-- What it leaves in the second's. -/
def leftL (c : Dev nD) (t : Fin cfg0.N) : Vec F S1x1 .f32 := balance (k0_pay24 (iblk m c 0 t)) (iblk m c 1 t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => leftO m c t
    | ⟨4, _⟩ => leftL m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = leftO m c t := by dsimp only [dats]
theorem after_w4 (c : Dev nD) (t : Fin cfg0.N) : (dats m 0 c).after 4 t = leftL m c t := by dsimp only [dats]

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) (st0_4 t) (hstage0_4 0) :=
  (congrFun defs_tc _).trans rfl

set_option backward.isDefEq.respectTransparency.types false in
theorem body_meets (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3, after_w4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HF, HS, Hwc, Hg⟩, ⟨%W, -, HW⟩, ⟨%d0, H0⟩, ⟨%d1, H1⟩, ⟨%d2, H2⟩, ⟨%d3, %f3, -, H3⟩, ⟨%d4, %f4, -, H4⟩⟩
  sl_rw [prog_eq t]
  iapply (bodyRun c (st0_0 t) (hstage0_0 0) (st0_1 t) (hstage0_1 0) (st0_2 t) (hstage0_2 0) (st0_3 t) (hstage0_3 0) (st0_4 t) (hstage0_4 0)
    (V m c main_arg2) (V m c main_arg3) (V m c main_arg4) (V m c main_arg5) (V m c main_arg6) (V m c main_arg7)
    (iblk m c 0 t) (iblk m c 1 t) (iblk m c 2 t) W)
  unfold preP postP valP
  isplitl [HF HS Hwc HW H0 H1 H2 H3 H4]
  · isplitl [H0]; · iexact H0
    isplitl [H1]; · iexact H1
    isplitl [H2]; · iexact H2
    isplitl [H3]; · iexists f3; iexact H3
    isplitl [H4]; · iexists f4; iexact H4
    isplitl [Hwc]; · iexact Hwc
    isplitl [HS]; · unfold sharedIn; iexact HS
    isplitl [HF]; · iexact HF
    iexact HW
  · iintro ⟨H0, H1, H2, H3, H4, Hwc, HS, HF, ⟨%W', HW⟩⟩
    isplitl [HF HS Hwc Hg]
    · isplitl [HF]; · iexact HF
      isplitl [HS]; · iexact HS
      isplitl [Hwc]; · iexact Hwc
      iexact Hg
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    iexact H4

/-! ## @main -/

set_option maxHeartbeats 800000 in
theorem main_around : Pipeline.HMainK (Ix := Unit) (Name := ℕ) (U := UU nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem tail_clear : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  subst hops
  refine Pipeline.sub_tailRefsBut _ spec0 moved op ((List.forall_iff_forall_mem.mp hostOps1_sub) op hop) (fun k => k.elim0) ?_
  simp only [hostOps1, List.mem_cons, List.mem_nil_iff, or_false] at hop
  have e : ∀ b ∈ moved, b ≠ main_v2_0 ∧ b ≠ main_v2_1 ∧ b ≠ main_v3 ∧ b ≠ main_v4 := by decide
  intro b hb
  obtain ⟨e1, e2, e3, e4⟩ := e b hb
  rcases hop with rfl | rfl <;> rw [StableHlo.reshape_bufs, Finset.mem_insert, Finset.mem_singleton, not_or]
  · exact ⟨StableHlo.devRef_ne_of_ne e1, StableHlo.devRef_ne_of_ne e3⟩
  · exact ⟨StableHlo.devRef_ne_of_ne e2, StableHlo.devRef_ne_of_ne e4⟩

/-- From any memory with every counter at zero, @main ends: every array as the pipeline leaves it, every other buffer
    as the host lines leave it, every counter at zero. -/
theorem run_main : θ_run defs (onTc (τ := τ) (main (F := F))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_dma_around cfgs (dats m) 0 launch0 osem defs₀ 𝒱₀ osem_own moved moved_rest m ρ main
    (hbody := fun c => (body_meets m c).loose) (hshare := fun c => (dats m 0 c).share_full fun _ => rfl)
    (howed := fun _ _ => rfl) (V₀ := V0 m) (opss := [hostOps1]) (hsub := tail_clear) (hfresh := sfx_fresh) (hkeep := sfx_keeps)
    (hmain := main_around m) (hA := fun _ _ => rfl) (hin := fun c => Φ_enter m c) (hout := fun c => Φ_leave m c)
    (Q' := fun r => Pipeline.FramePost cfgs (dats m) 0 (Pipeline.afterTail₀ cfgs (dats m) 0 (V0 m) [hostOps1]) r ∧ r.2.sem = fun _ => 0)
    (hQ' := fun _ h => h)

end Cert.Proof.Moe
-- ==== Proof.After.lean ====
/-
  The memory after @main: the arguments as they were, the two results as the body left them.
-/
module

public import proofs.«01_k».proof.Proof.Launch

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

open Idealize.ShloMosaic.Pipeline (Dat Cfg Window BodyObligation)

variable (m : (ℓ : Loc nD τ sig) → Buf (Elt F) ℓ)

/-- A buffer that is no array of the call and no result of the lines after it is left as the call found it. -/
theorem tail_keeps (c : Dev nD) (b : Ref sig .tc) (h3 : b ≠ main_v3) (h4 : b ≠ main_v4) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h3, StableHlo.devRef_ne_of_ne h4⟩)),
    Pipeline.withArrays_of_ne _ c (V0 m c) _ b hw]

abbrev Kept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)

theorem kept_of_post (r : PUnit × MemSt nD τ sig (Elt F))
    (h : Pipeline.FramePost cfgs (dats m) 0 (Pipeline.afterTail₀ cfgs (dats m) 0 (V0 m) [hostOps1]) r) : Kept m r := fun c => by
  have rest : ∀ b : Ref sig .tc, b ∈ Pipeline.restRefs sig spec0 → b ≠ main_v3 → b ≠ main_v4 → (∀ w, Pipeline.arrRef spec0 w ≠ b) →
      r.2.mem ((c.tc : Thread nD τ).loc b) = V m c b := fun b hb h3 h4 hw => ((h c).2 b hb).trans (tail_keeps m c b h3 h4 hw)
  exact ⟨(rest main_arg0 (by decide) (by decide) (by decide) (by decide)).trans (V_main_arg0 m c),
    ((h c).1 1).trans (((dats m 0 c).arrAt_in 1 rfl _).trans (V_main_arg1 m c)),
    (rest main_arg2 (by decide) (by decide) (by decide) (by decide)).trans (V_main_arg2 m c),
    (rest main_arg3 (by decide) (by decide) (by decide) (by decide)).trans (V_main_arg3 m c),
    (rest main_arg4 (by decide) (by decide) (by decide) (by decide)).trans (V_main_arg4 m c),
    (rest main_arg5 (by decide) (by decide) (by decide) (by decide)).trans (V_main_arg5 m c),
    (rest main_arg6 (by decide) (by decide) (by decide) (by decide)).trans (V_main_arg6 m c),
    (rest main_arg7 (by decide) (by decide) (by decide) (by decide)).trans (V_main_arg7 m c),
    (rest main_arg8 (by decide) (by decide) (by decide) (by decide)).trans (V_main_arg8 m c)⟩

end Cert.Proof.Moe
-- ==== Proof.Picks.lean ====
/-
  Picking the greatest entries of a row of 64 one after another: the first lane that holds the greatest entry, then the
  same with that lane marked by a value below every entry, and so on. The lanes so picked are the head of the row's
  stable sort, greatest first.
-/
module

public import Idealize.ShloMosaic.Lib.SortPrefix
public import Idealize.ShloMosaic.PureOps.Ideal

@[expose] public section

noncomputable section

namespace Cert.Proof.Moe

open Idealize.ShloMosaic

/-! ## One pick -/

/-- The greatest entry of a row. -/
def peak (p : Fin 64 → EReal) : EReal := Finset.univ.sup p

theorem le_peak (p : Fin 64 → EReal) (e : Fin 64) : p e ≤ peak p := Finset.le_sup (Finset.mem_univ e)

theorem peak_attained (p : Fin 64 → EReal) : ∃ e, p e = peak p := by
  obtain ⟨e, -, h⟩ := Finset.exists_mem_eq_sup (Finset.univ : Finset (Fin 64)) ⟨0, Finset.mem_univ 0⟩ p
  exact ⟨e, h.symm⟩

theorem crest_nonempty (p : Fin 64 → EReal) : (Finset.univ.filter fun e => p e = peak p).Nonempty := by
  obtain ⟨e, h⟩ := peak_attained p
  exact ⟨e, Finset.mem_filter.mpr ⟨Finset.mem_univ e, h⟩⟩

/-- The first lane that holds the greatest entry. -/
def pick (p : Fin 64 → EReal) : Fin 64 := (Finset.univ.filter fun e => p e = peak p).min' (crest_nonempty p)

theorem pick_peak (p : Fin 64 → EReal) : p (pick p) = peak p :=
  (Finset.mem_filter.mp (Finset.min'_mem _ (crest_nonempty p))).2

theorem pick_le (p : Fin 64 → EReal) (e : Fin 64) (h : p e = peak p) : pick p ≤ e :=
  Finset.min'_le _ e (Finset.mem_filter.mpr ⟨Finset.mem_univ e, h⟩)

/-- A lane that holds the greatest entry, none before it holding it, is the picked one. -/
theorem eq_pick (p : Fin 64 → EReal) (e : Fin 64) (h : p e = peak p) (h' : ∀ d, p d = peak p → e ≤ d) : e = pick p :=
  le_antisymm (h' _ (pick_peak p)) (pick_le p e h)

/-- The row with its picked lane marked by `s`. -/
def next (s : EReal) (p : Fin 64 → EReal) : Fin 64 → EReal := fun e => if e = pick p then s else p e

/-- The row after `i` picks. -/
def row (s : EReal) (p : Fin 64 → EReal) : ℕ → Fin 64 → EReal
  | 0 => p
  | i + 1 => next s (row s p i)

/-- The lane of the `i`-th pick. -/
def lane (s : EReal) (p : Fin 64 → EReal) (i : ℕ) : Fin 64 := pick (row s p i)

/-! ## All the picks, of a row whose entries are above the mark -/

section
variable {s : EReal} {p : Fin 64 → EReal}

theorem row_apply (i : ℕ) (e : Fin 64) : row s p i e = if ∃ j < i, lane s p j = e then s else p e := by
  induction i with
  | zero => simp [row]
  | succ i ih =>
    show (if e = pick (row s p i) then s else row s p i e) = _
    rw [ih]
    by_cases h : e = pick (row s p i)
    · rw [if_pos h, if_pos ⟨i, Nat.lt_succ_self i, h.symm⟩]
    · rw [if_neg h]
      by_cases h2 : ∃ j < i, lane s p j = e
      · obtain ⟨j, hj, hje⟩ := h2
        rw [if_pos ⟨j, hj, hje⟩, if_pos ⟨j, Nat.lt_succ_of_lt hj, hje⟩]
      · rw [if_neg h2, if_neg]
        rintro ⟨j, hj, hje⟩
        rcases Nat.lt_succ_iff_lt_or_eq.mp hj with hj' | rfl
        · exact h2 ⟨j, hj', hje⟩
        · exact h hje.symm

variable (hs : ∀ e, s < p e)
include hs

theorem lane_fresh {i : ℕ} (hi : i < 64) : ¬ ∃ j < i, lane s p j = lane s p i := by
  intro hbad
  have hcard : ((Finset.range i).image (lane s p)).card < (Finset.univ : Finset (Fin 64)).card := by
    refine lt_of_le_of_lt Finset.card_image_le ?_
    simpa using hi
  obtain ⟨e, -, he⟩ := Finset.exists_mem_notMem_of_card_lt_card hcard
  have he' : ¬ ∃ j < i, lane s p j = e := by
    rintro ⟨j, hj, hje⟩
    exact he (Finset.mem_image.mpr ⟨j, Finset.mem_range.mpr hj, hje⟩)
  have h1 : row s p i e ≤ row s p i (lane s p i) := by
    rw [show row s p i (lane s p i) = peak (row s p i) from pick_peak _]
    exact le_peak _ _
  rw [row_apply, if_neg he', row_apply, if_pos hbad] at h1
  exact absurd h1 (not_le.mpr (hs e))

theorem row_lane {i : ℕ} (hi : i < 64) : row s p i (lane s p i) = p (lane s p i) := by
  rw [row_apply, if_neg (lane_fresh hs hi)]

theorem lane_inj {i j : ℕ} (hi : i < 64) (hj : j < 64) (h : lane s p i = lane s p j) : i = j := by
  rcases lt_trichotomy i j with hlt | heq | hgt
  · exact absurd ⟨i, hlt, h⟩ (lane_fresh hs hj)
  · exact heq
  · exact absurd ⟨j, hgt, h.symm⟩ (lane_fresh hs hi)

/-- An entry not picked before the `i`-th pick is at most the picked one, and where they are equal the pick lies first. -/
theorem lane_before {i : ℕ} (hi : i < 64) (e : Fin 64) (he : ∀ j < i, lane s p j ≠ e) :
    p e ≤ p (lane s p i) ∧ (p e = p (lane s p i) → lane s p i ≤ e) := by
  have hrow : row s p i e = p e := by
    rw [row_apply, if_neg]
    rintro ⟨j, hj, hje⟩
    exact he j hj hje
  have hpk : peak (row s p i) = p (lane s p i) := by rw [← row_lane hs hi]; exact (pick_peak _).symm
  refine ⟨?_, fun heq => pick_le _ e ?_⟩
  · rw [← hrow, ← hpk]; exact le_peak _ _
  · rw [hrow, hpk, heq]

end

/-- A row with the entries of its first `n` picks, zeros elsewhere. -/
def routed (n : ℕ) (p : Fin 64 → EReal) (e : Fin 64) : EReal := if ∃ j < n, lane (-1) p j = e then p e else 0

/-! ## The picks are the head of the stable sort -/

/-- Sorting the lanes in order of position by the keys alone is sorting them by key, then position. -/
theorem stableSort_key {n : ℕ} (lt : EReal → EReal → Bool) (key : Fin n → EReal) (l : List (Fin n)) (hl : l.Pairwise (· < ·)) :
    stableSort (fun k k' => lt (key k) (key k')) l
      = stableSort (fun k k' => lt (key k) (key k') || (decide (key k = key k') && decide (k < k'))) l := by
  induction l with
  | nil => rfl
  | cons a l ih =>
    obtain ⟨ha, hl⟩ := List.pairwise_cons.mp hl
    show insertBefore _ a (stableSort _ l) = insertBefore _ a (stableSort _ l)
    rw [ih hl]
    refine insertBefore_congr _ _ a _ fun b hb => ?_
    have hab : a < b := ha b ((perm_stableSort _ l).mem_iff.mp hb)
    have : ¬ b < a := not_lt.mpr hab.le
    simp [this]

theorem sortedFrom_of_eq {n : ℕ} {B B' : Fin n → Fin n → Bool} (h : sortPositions n B = sortPositions n B') (k : Fin n) :
    sortedFrom B k = sortedFrom B' k := List.get_of_eq h _

/-- The `i`-th place of a row sorted greatest first is taken from the `i`-th pick. -/
theorem sortedFrom_greatest {s : EReal} {p : Fin 64 → EReal} (hs : ∀ e, s < p e) {k : ℕ} (hk : k ≤ 64) (i : Fin k) :
    sortedFrom (fun a b : Fin 64 => decide (p b < p a)) (i.castLE hk) = lane s p i := by
  have hB := StrictTotalBefore.of_key_then_position (fun x y : EReal => decide (y < x)) p (by simp)
    (fun a b c h1 h2 => by simp only [decide_eq_true_eq] at *; exact h2.trans h1)
    (fun a b => by
      simp only [decide_eq_true_eq]
      rcases lt_trichotomy a b with h | h | h
      · exact .inr (.inr h)
      · exact .inr (.inl h)
      · exact .inl h)
  have hk' : ∀ j : Fin k, j.val < 64 := fun j => lt_of_lt_of_le j.isLt hk
  have key := hB.sortedFrom_eq_of_prefix hk (fun j => lane s p j.val)
    (fun a b h => Fin.ext (lane_inj hs (hk' a) (hk' b) h))
    (fun a b hab => by
      have h := lane_before hs (hk' a) (lane s p b) fun j hj hje =>
        absurd (lane_inj hs (hj.trans (hk' a)) (hk' b) hje) (by have : a.val < b.val := hab; omega)
      simp only [Bool.or_eq_false_iff, decide_eq_false_iff_not, Bool.and_eq_false_iff, not_lt]
      refine ⟨h.1, ?_⟩
      by_cases he : p (lane s p b) = p (lane s p a)
      · exact .inr (h.2 he)
      · exact .inl he)
    (fun a q hq => by
      have h := lane_before hs (hk' a) q fun j hj => hq ⟨j, hj.trans a.isLt⟩
      simp only [Bool.or_eq_false_iff, decide_eq_false_iff_not, Bool.and_eq_false_iff, not_lt]
      refine ⟨h.1, ?_⟩
      by_cases he : p q = p (lane s p a)
      · exact .inr (h.2 he)
      · exact .inl he)
    i
  rw [← key]
  exact sortedFrom_of_eq (stableSort_key (fun x y : EReal => decide (y < x)) p (List.finRange 64) (List.pairwise_lt_finRange 64)) _

end Cert.Proof.Moe

end
-- ==== Proof.Rounds.lean ====
/-
  The router's rounds as the kernel's block computes them, read lane by lane: each round finds the first lane that holds
  its row's greatest entry.
-/
module

public import proofs.«01_k».proof.Proof.Picks
public import proofs.«01_k».proof.Proof.Body
public import Idealize.ShloMosaic.Lib.Pointwise
public import Idealize.ShloMosaic.Lib.SortNet.Extract

@[expose] public section

set_option maxRecDepth 16384

noncomputable section

namespace Cert.Proof.Moe

open Cert.KernelIdeal Cert.KernelIdeal.Gen
open Idealize.ShloMosaic

variable {F : FTy → Type} [FloatOps F]

/-! ## The rounds, over whole blocks -/

/-- The lanes picked in each row. -/
def hitOf (v0 : IVec S128x64 32) (p : FVec F S128x64 .f32) : IVec S128x64 1 :=
  cmpi .eq v0 (broadcastTo S128x64 (shapeCast S128x1 (multiReductionI .minsi [1] S128
    (select (cmpf .oeq p (broadcastTo S128x64 (shapeCast S128x1
        (multiReduction .maximumf [1] S128 p 0xFF800000#32 reduces_S128x64_S128 (.inl rfl) rfl) shapeCasts_S128_S128x1)
        broadcasts_S128x1_S128x64)) v0 (broadcast S128x64 64#32))
    2147483647#32 reduces_S128x64_S128 rfl) shapeCasts_S128_S128x1) broadcasts_S128x1_S128x64)

/-- The block before the `i`-th round: `P` with the lanes picked so far marked by -1. -/
def marked (v0 : IVec S128x64 32) (P : FVec F S128x64 .f32) : ℕ → FVec F S128x64 .f32
  | 0 => P
  | i + 1 => select (hitOf v0 (marked v0 P i)) (broadcast S128x64 (Scalar.ofBits .f32 0xBF800000#32)) (marked v0 P i)

/-- The entries kept before the `i`-th round: those of `P` in the lanes picked so far, zeros elsewhere. -/
def kept (v0 : IVec S128x64 32) (P : FVec F S128x64 .f32) : ℕ → FVec F S128x64 .f32
  | 0 => broadcast S128x64 (Scalar.ofBits .f32 0x00000000#32)
  | i + 1 => select (hitOf v0 (marked v0 P i)) P (kept v0 P i)

theorem wts_eq (v0 : IVec S128x64 32) (v9 : FVec F S128x1024 .bf16) (Wg : Vec F S1024x64 .f32) :
    wts v0 v9 Wg = shapeCast S128x64 (kept v0 (k0_pay1 v9 Wg) 8) shapeCasts_S128x64_S128x64 := rfl

/-! ## Words and literals -/

theorem toInt_lane (d : Fin 64) : (BitVec.ofNat 32 d.val).toInt = (d.val : ℤ) := by
  have hd := d.isLt
  rw [BitVec.toInt_eq_toNat_of_lt] <;> simp only [BitVec.toNat_ofNat] <;> omega

theorem lane_word_inj {d e : Fin 64} (h : BitVec.ofNat 32 d.val = BitVec.ofNat 32 e.val) : d = e := by
  have := congrArg BitVec.toInt h
  rw [toInt_lane, toInt_lane] at this
  exact Fin.ext (by exact_mod_cast this)

theorem neg_inf_f32 : Ideal.ofBits .f32 0xFF800000#32 = ⊥ := by simp [Ideal.ofBits, Ideal.ieee]

theorem neg_one_f32 : Ideal.ofBits .f32 0xBF800000#32 = -1 := IdealRules.sign_bit.ideal_negOnePat .f32

theorem fold_max_eq (p : Fin 64 → EReal) : Finset.univ.fold max ⊥ p = peak p := rfl

/-- The least of the lanes that hold the row's greatest entry, found by taking the least of words. -/
theorem least_word (p : Fin 64 → EReal) :
    Finset.univ.fold IntOp.minsi 2147483647#32 (fun x : Fin 64 => if p x = peak p then BitVec.ofNat 32 x.val else 64#32)
      = BitVec.ofNat 32 (pick p).val := by
  apply BitVec.eq_of_toInt_eq
  rw [← Finset.fold_hom (op := IntOp.minsi) (op' := min) (m := BitVec.toInt) (fun a b => SortNet.toInt_minsi a b), toInt_lane]
  have h64 : (64#32 : BitVec 32).toInt = 64 := by decide
  have hbig : (2147483647#32 : BitVec 32).toInt = 2147483647 := by decide
  have hp := (pick p).isLt
  apply le_antisymm
  · rw [Finset.fold_min_le]
    refine .inr ⟨pick p, Finset.mem_univ _, ?_⟩
    rw [if_pos (pick_peak p), toInt_lane]
  · rw [Finset.le_fold_min]
    refine ⟨by rw [hbig]; omega, fun x _ => ?_⟩
    by_cases h : p x = peak p
    · rw [if_pos h, toInt_lane]
      have : (pick p).val ≤ x.val := pick_le p x h
      omega
    · rw [if_neg h, h64]; omega

/-! ## Read lane by lane -/

theorem hitOf_apply (p : FVec Ideal S128x64 .f32) (t : Fin 128) (e : Fin 64) :
    hitOf lanes p (ix2 t e) = if e = pick (fun d => p (ix2 t d)) then 1#1 else 0#1 := by
  pointwise [hitOf, lanes]
  rw [neg_inf_f32]
  have h := least_word fun d => p (ix2 t d)
  rw [fold_max_eq]
  rw [h]
  by_cases he : e = pick fun d => p (ix2 t d)
  · rw [if_pos he, ← he]; simp [IntOp.cmpi]
  · rw [if_neg he]
    have : BitVec.ofNat 32 e.val ≠ BitVec.ofNat 32 (pick fun d => p (ix2 t d)).val := fun h => he (lane_word_inj h)
    show BitVec.ofBool (_ == _) = _
    rw [beq_eq_false_iff_ne.mpr this]; rfl

theorem marked_apply (P : FVec Ideal S128x64 .f32) (t : Fin 128) (i : ℕ) (e : Fin 64) :
    marked lanes P i (ix2 t e) = row (-1) (fun d => P (ix2 t d)) i e := by
  induction i generalizing e with
  | zero => rfl
  | succ i ih =>
    have hrow : (fun d => marked lanes P i (ix2 t d)) = row (-1) (fun d => P (ix2 t d)) i := funext ih
    show Scalar.select (hitOf lanes (marked lanes P i) (ix2 t e)) (Ideal.ofBits .f32 0xBF800000#32) (marked lanes P i (ix2 t e)) = _
    rw [hitOf_apply, ih, hrow, neg_one_f32]
    by_cases h : e = pick (row (-1) (fun d => P (ix2 t d)) i)
    · simp [row, next, h, Scalar.select]
    · simp [row, next, h, Scalar.select]

theorem kept_apply (P : FVec Ideal S128x64 .f32) (t : Fin 128) (i : ℕ) (e : Fin 64) :
    kept lanes P i (ix2 t e) = if ∃ j < i, lane (-1) (fun d => P (ix2 t d)) j = e then P (ix2 t e) else 0 := by
  induction i generalizing e with
  | zero =>
    rw [if_neg (by rintro ⟨j, hj, -⟩; exact absurd hj (Nat.not_lt_zero j))]
    exact Ideal.ofBits_zero_f32
  | succ i ih =>
    have hrow : (fun d => marked lanes P i (ix2 t d)) = row (-1) (fun d => P (ix2 t d)) i := funext (marked_apply P t i)
    show Scalar.select (hitOf lanes (marked lanes P i) (ix2 t e)) (P (ix2 t e)) (kept lanes P i (ix2 t e)) = _
    rw [hitOf_apply, ih, hrow]
    by_cases h : e = pick (row (-1) (fun d => P (ix2 t d)) i)
    · have h8 : ∃ j < i + 1, lane (-1) (fun d => P (ix2 t d)) j = e := ⟨i, Nat.lt_succ_self i, h.symm⟩
      rw [if_pos h, if_pos h8]; rfl
    · have h8 : (∃ j < i, lane (-1) (fun d => P (ix2 t d)) j = e) ↔ ∃ j < i + 1, lane (-1) (fun d => P (ix2 t d)) j = e := by
        constructor
        · rintro ⟨j, hj, hje⟩
          exact ⟨j, Nat.lt_succ_of_lt hj, hje⟩
        · rintro ⟨j, hj, hje⟩
          rcases Nat.lt_succ_iff_lt_or_eq.mp hj with hj' | rfl
          · exact ⟨j, hj', hje⟩
          · exact absurd hje.symm h
      rw [if_neg h, if_congr h8 rfl rfl]; rfl

/-- What the kernel's router keeps in a row: the entries of the eight picks, zeros elsewhere. -/
theorem wts_apply (v9 : FVec Ideal S128x1024 .bf16) (Wg : Vec Ideal S1024x64 .f32) (t : Fin 128) (e : Fin 64) :
    wts lanes v9 Wg (ix2 t e) = routed 8 (fun d => k0_pay1 v9 Wg (ix2 t d)) e := by
  rw [wts_eq]
  refine Eq.trans ?_ (kept_apply (k0_pay1 v9 Wg) t 8 e)
  pointwise

end Cert.Proof.Moe

end
-- ==== Proof.Gates.lean ====
/-
  The router's gates: the softmax of a row of logits, on the kernel's side and on the reference's, and that with finite
  logits every gate is at least zero.
-/
module

public import proofs.«01_k».proof.Proof.Rounds
public import proofs.«01_k».proof.Proof.Gen.ReferenceIdeal.Run
public import proofs.«01_k».proof.Defs

@[expose] public section

set_option maxRecDepth 16384

noncomputable section

namespace Cert.Proof.Moe

open Cert.KernelIdeal Cert.KernelIdeal.Gen
open Idealize.ShloMosaic

/-- A row's softmax. -/
def softmax (l : Fin 64 → EReal) (e : Fin 64) : EReal :=
  Ideal.div (Ideal.exp (l e - peak l)) (∑ d, Ideal.exp (l d - peak l))

/-- The router's logits of row `t`. -/
def logit (X : FVec Ideal S128x1024 .f32) (W : FVec Ideal S1024x64 .f32) (t : Fin 128) (e : Fin 64) : EReal :=
  ∑ k : Fin 1024, X (ix2 t k) * W (ix2 k e)

theorem pay1_apply (X : FVec Ideal S128x1024 .bf16) (W : FVec Ideal S1024x64 .f32) (t : Fin 128) (e : Fin 64) :
    k0_pay1 (F := Ideal) X W (ix2 t e) = softmax (logit X W t) e := by
  pointwise [k0_pay1]
  rw [neg_inf_f32]
  rfl

/-! ## With finite logits -/

theorem exp_nonneg (x : EReal) : 0 ≤ Ideal.exp x := by
  induction x with
  | bot => exact le_refl 0
  | top => exact le_top
  | coe r => exact EReal.coe_nonneg.mpr (Real.exp_pos r).le

/-- With finite logits every gate is at least zero. -/
theorem softmax_nonneg (l : Fin 64 → EReal) (ht : ∀ e, l e ≠ ⊤) (hb : ∀ e, l e ≠ ⊥) (e : Fin 64) : 0 ≤ softmax l e := by
  obtain ⟨d, hd⟩ := peak_attained l
  have hone : Ideal.exp (l d - peak l) = 1 := by
    rw [← hd]
    have h := ht d
    have h' := hb d
    induction hx : l d with
    | bot => exact absurd hx h'
    | top => exact absurd hx h
    | coe r =>
      rw [← EReal.coe_sub, sub_self]
      show ((Real.exp 0 : ℝ) : EReal) = 1
      rw [Real.exp_zero]; rfl
  have hsum : 0 < ∑ d, Ideal.exp (l d - peak l) := by
    refine lt_of_lt_of_le zero_lt_one ?_
    rw [← hone]
    exact Finset.single_le_sum (f := fun d => Ideal.exp (l d - peak l)) (fun i _ => exp_nonneg _) (Finset.mem_univ d)
  unfold softmax Ideal.div
  rw [if_neg hsum.ne']
  exact mul_nonneg (exp_nonneg _) (EReal.inv_nonneg_of_nonneg hsum.le)

theorem softmax_above (l : Fin 64 → EReal) (ht : ∀ e, l e ≠ ⊤) (hb : ∀ e, l e ≠ ⊥) (e : Fin 64) : -1 < softmax l e :=
  lt_of_lt_of_le (by rw [← EReal.coe_one, ← EReal.coe_neg, ← EReal.coe_zero, EReal.coe_lt_coe_iff]; norm_num) (softmax_nonneg l ht hb e)

end Cert.Proof.Moe

end
-- ==== Proof.Experts.lean ====
/-
  One expert's network and its part of the output, as the kernel's block computes them.
-/
module

public import proofs.«01_k».proof.Proof.Gates

@[expose] public section

set_option maxRecDepth 16384

noncomputable section

namespace Cert.Proof.Moe

open Cert.KernelIdeal Cert.KernelIdeal.Gen
open Idealize.ShloMosaic

/-! ## An expert's network -/

/-- `t`'s row of `X` against column `j` of `A`. -/
def mixed (X : Fin 128 → Fin 1024 → EReal) (A : Fin 1024 → Fin 1024 → EReal) (t : Fin 128) (j : Fin 1024) : EReal :=
  ∑ k : Fin 1024, X t k * A k j

/-- The hidden layer: the gated product. -/
def hidden (X : Fin 128 → Fin 1024 → EReal) (A B : Fin 1024 → Fin 1024 → EReal) (t : Fin 128) (j : Fin 1024) : EReal :=
  mixed X A t j * Ideal.logistic (mixed X A t j) * mixed X B t j

/-- The network's output. -/
def network (X : Fin 128 → Fin 1024 → EReal) (A B C : Fin 1024 → Fin 1024 → EReal) (t : Fin 128) (n : Fin 1024) : EReal :=
  ∑ j : Fin 1024, hidden X A B t j * C j n

/-- The shared expert's gate, before the logistic function. -/
def gateSum (X : Fin 128 → Fin 1024 → EReal) (g : Fin 1024 → EReal) (t : Fin 128) : EReal := ∑ k : Fin 1024, X t k * g k

/-- A matrix by its rows and columns. -/
def rc {a b : ℕ} (x : (⟨2, ![a, b]⟩ : Shape).Idx → EReal) (i : Fin a) (j : Fin b) : EReal := x (ix2 i j)
/-- A block of a stack by its rows and columns. -/
def rc1 {a b : ℕ} (x : (⟨3, ![1, a, b]⟩ : Shape).Idx → EReal) (i : Fin a) (j : Fin b) : EReal := x (ix3 0 i j)

/-- The layer's output: the experts' networks weighted by what the router keeps, and the shared expert's by its gate. -/
def layer (X : Fin 128 → Fin 1024 → EReal) (p : Fin 128 → Fin 64 → EReal) (A B C : Fin 64 → Fin 1024 → Fin 1024 → EReal)
    (A' B' C' : Fin 1024 → Fin 1024 → EReal) (g : Fin 1024 → EReal) (t : Fin 128) (n : Fin 1024) : EReal :=
  (∑ e : Fin 64, routed 8 (p t) e * network X (A e) (B e) (C e) t n) + Ideal.logistic (gateSum X g t) * network X A' B' C' t n

/-- A stack by its blocks, rows and columns. -/
def rcs {a b c : ℕ} (x : (⟨3, ![a, b, c]⟩ : Shape).Idx → EReal) (e : Fin a) (i : Fin b) (j : Fin c) : EReal := x (ix3 e i j)

/-! ## What one trip adds -/

theorem pick_sum (w : Fin 64 → EReal) (k : Fin 64) :
    (∑ x : Fin 64, if BitVec.ofNat 32 x.val = BitVec.ofNat 32 k.val then w x else 0) = w k := by
  rw [Finset.sum_eq_single k]
  · rw [if_pos rfl]
  · intro b _ hb
    rw [if_neg fun h => hb (lane_word_inj h)]
  · intro h; exact absurd (Finset.mem_univ k) h

theorem addExpert_apply (v9 : FVec Ideal S128x1024 .bf16) (k : Fin 64) (B1 B2 B3 : Vec Ideal S1x1024x1024 .f32)
    (w : Vec Ideal S128x64 .f32) (o : Vec Ideal S128x1024 .f32) (t : Fin 128) (n : Fin 1024) :
    addExpert (F := Ideal) lanes v9 k.val B1 B2 B3 w o (ix2 t n)
      = o (ix2 t n) + w (ix2 t k) * network (rc v9) (rc1 B1) (rc1 B2) (rc1 B3) t n := by
  pointwise [addExpert, k0_pay20, k0_pay21, k0_pay22, lanes]
  have hpick : (∑ x : Fin 64, Scalar.select (IntOp.cmpi CmpIPredicate.eq (BitVec.ofNat 32 x.val) (BitVec.ofNat 32 k.val)) (w (ix2 t x)) (0 : EReal))
      = w (ix2 t k) := by
    rw [← pick_sum (fun d => w (ix2 t d)) k]
    refine Finset.sum_congr rfl fun x _ => ?_
    show (if BitVec.ofBool (BitVec.ofNat 32 x.val == BitVec.ofNat 32 k.val) = 1#1 then _ else _) = _
    by_cases h : BitVec.ofNat 32 x.val = BitVec.ofNat 32 k.val
    · rw [if_pos h, beq_iff_eq.mpr h]; rfl
    · rw [if_neg h, beq_eq_false_iff_ne.mpr h]; rfl
  rw [hpick]
  rfl

theorem addShared_apply (v9 : FVec Ideal S128x1024 .bf16) (A B C : Vec Ideal S1024x1024 .f32) (g : Vec Ideal S1x1024 .f32)
    (o : Vec Ideal S128x1024 .f32) (t : Fin 128) (n : Fin 1024) :
    addShared (F := Ideal) v9 A B C g o (ix2 t n)
      = o (ix2 t n) + Ideal.logistic (gateSum (rc v9) (fun k => g (ix2 0 k)) t) * network (rc v9) (rc A) (rc B) (rc C) t n := by
  pointwise [addShared, k0_pay23]
  rfl

/-- How far expert `e`'s mean gate is from 1/64. -/
def offBy (p : Fin 128 → Fin 64 → EReal) (e : Fin 64) : EReal :=
  Ideal.div (∑ t : Fin 128, p t e) (Ideal.ofBits .f32 0x43000000#32) - Ideal.ofBits .f32 0x3C800000#32

/-- The balance of the gates: the square of that distance, on average over the experts. -/
def evenness (p : Fin 128 → Fin 64 → EReal) : EReal :=
  Ideal.div (∑ e : Fin 64, offBy p e * offBy p e) (Ideal.ofBits .f32 0x42800000#32)

theorem balance_apply (v9 : FVec Ideal S128x1024 .bf16) (W : Vec Ideal S1024x64 .f32) (j : S1x1.Idx) :
    balance (F := Ideal) v9 W j = evenness fun t e => softmax (logit v9 W t) e := by
  pointwise [balance, k0_pay19]
  simp only [pay1_apply, Fin.sum_univ_one]
  rfl

end Cert.Proof.Moe

end
-- ==== Proof.Output.lean ====
/-
  The kernel's two results, read at an index: what the trips leave in the output's block, and the arrays that the call and
  the two reshapes after it leave.
-/
module

public import proofs.«01_k».proof.Proof.Experts
public import proofs.«01_k».proof.Proof.After
public import Idealize.ShloMosaic.Lib.Pipeline.ValueKit

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL.Sem

/-! ## The trips, added up -/

/-- A row and a column of block `b` are that row and column of matrix `b` of the stack. -/
theorem emb_blk (X : Memref sig .tc .hbm S64x1024x1024 .f32) (b : Fin 64) (i j : Fin 1024) :
    (Rect.unit (s := S64x1024x1024) (blkOff b) S1x1024x1024.size (blkOff_inb b)).emb (ix3 0 i j) = ix3 b i j := by
  funext a
  match a with
  | ⟨0, _⟩ => exact Fin.ext (by show b.val + 1 * 0 = b.val; omega)
  | ⟨1, _⟩ => exact Fin.ext (by show 0 + 1 * i.val = i.val; omega)
  | ⟨2, _⟩ => exact Fin.ext (by show 0 + 1 * j.val = j.val; omega)

/-- A block of a stack, as the copies bring it in, holds the stack's numbers. -/
theorem gate_block (c : Dev nD) (A : Vec Ideal S64x1024x1024 .f32) (b : Fin 64) :
    rc1 (blkVal (F := Ideal) c WgM A b) = rcs A b := funext fun i => funext fun j => congrArg A (emb_blk WgM b i j)
theorem up_block (c : Dev nD) (A : Vec Ideal S64x1024x1024 .f32) (b : Fin 64) :
    rc1 (blkVal (F := Ideal) c WuM A b) = rcs A b := funext fun i => funext fun j => congrArg A (emb_blk WuM b i j)
theorem down_block (c : Dev nD) (A : Vec Ideal S64x1024x1024 .f32) (b : Fin 64) :
    rc1 (blkVal (F := Ideal) c WdM A b) = rcs A b := funext fun i => funext fun j => congrArg A (emb_blk WdM b i j)

section
variable (c : Dev nD) (A B C : Vec Ideal S64x1024x1024 .f32) (v9 : FVec Ideal S128x1024 .bf16) (A' B' C' : Vec Ideal S1024x1024 .f32)
  (W : Vec Ideal S1024x64 .f32) (g : Vec Ideal S1x1024 .f32)

/-- Expert `i`'s part of the output. -/
def part (t : Fin 128) (n : Fin 1024) (i : ℕ) : EReal :=
  wts (F := Ideal) lanes v9 W (ix2 t (Ring.bk 64 i))
    * network (rc v9) (rcs A (Ring.bk 64 i)) (rcs B (Ring.bk 64 i)) (rcs C (Ring.bk 64 i)) t n

/-- The shared expert's part. -/
def sharedPart (t : Fin 128) (n : Fin 1024) : EReal :=
  Ideal.logistic (gateSum (rc v9) (fun k => g (ix2 0 k)) t) * network (rc v9) (rc A') (rc B') (rc C') t n

theorem expert_step (t : Fin 128) (n : Fin 1024) (k : ℕ) (hk : k < 64) (o : Vec Ideal S128x1024 .f32) :
    addExpert (F := Ideal) lanes v9 k (blkVal c WgM A (Ring.bk 64 k)) (blkVal c WuM B (Ring.bk 64 k)) (blkVal c WdM C (Ring.bk 64 k))
        (wts lanes v9 W) o (ix2 t n) = o (ix2 t n) + part A B C v9 W t n k := by
  have hbk : Ring.bk 64 k = ⟨k, hk⟩ := Fin.ext (Nat.mod_eq_of_lt hk)
  have h := addExpert_apply v9 ⟨k, hk⟩ (blkVal c WgM A (Ring.bk 64 k)) (blkVal c WuM B (Ring.bk 64 k)) (blkVal c WdM C (Ring.bk 64 k))
    (wts lanes v9 W) o t n
  rw [gate_block, up_block, down_block] at h
  rw [part, hbk] at *
  exact h

/-- The output after `k` trips: the parts of the first `k` experts, and from trip 33 on the shared expert's. -/
theorem outAt_apply (t : Fin 128) (n : Fin 1024) (k : ℕ) (hk : k ≤ 64) :
    outAt (F := Ideal) c A B C lanes v9 A' B' C' W g (k0_pay25 (F := Ideal)) k (ix2 t n)
      = (∑ i ∈ Finset.range k, part A B C v9 W t n i) + (if 32 < k then sharedPart v9 A' B' C' g t n else 0) := by
  induction k with
  | zero =>
    rw [Finset.sum_range_zero, if_neg (by omega), add_zero]
    exact Ideal.ofBits_zero_f32
  | succ k ih =>
    have ih := ih (by omega)
    rw [Finset.sum_range_succ]
    by_cases h : k = 32
    · rw [outAt_shared _ _ _ _ _ _ _ _ _ _ _ _ _ h, addShared_apply, expert_step _ _ _ _ _ _ _ _ _ (by omega), ih, if_neg (by omega), if_pos (by omega), add_zero]
      rfl
    · rw [outAt_plain _ _ _ _ _ _ _ _ _ _ _ _ _ h, expert_step _ _ _ _ _ _ _ _ _ (by omega), ih]
      by_cases h' : 32 < k
      · rw [if_pos h', if_pos (by omega)]
        exact add_right_comm _ _ _
      · rw [if_neg h', if_neg (by omega), add_zero, add_zero]

end

/-! ## The arrays -/

variable (m : (ℓ : Loc nD τ sig) → Buf (Elt Ideal) ℓ)

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel

/-- The first window's block: one row per token. -/
theorem iblk0 (c : Dev nD) (t : Fin cfg0.N) :
    iblk m c 0 t = shapeCast S128x1024 (m ((c.tc : Thread nD τ).loc main_arg0)) shapeCasts_S128x1x1024_S128x1024 := by
  funext j
  blk_ext [iblk, V, index0 t]

theorem iblk1 (c : Dev nD) (t : Fin cfg0.N) : iblk m c 1 t = m ((c.tc : Thread nD τ).loc main_arg1) := by
  funext j
  blk_ext [iblk, V, index1 t]

theorem iblk2 (c : Dev nD) (t : Fin cfg0.N) :
    iblk m c 2 t = shapeCast S1x1024 (m ((c.tc : Thread nD τ).loc main_arg8)) shapeCasts_S1024x1_S1x1024 := by
  funext j
  blk_ext [iblk, V, index2 t]

theorem arr4 (c : Dev nD) : (dats m 0 c).arrAt 4 (cfgs 0).N = leftL m c t0_0 := by
  refine (dats m 0 c).arrAt_eq_of_after_last 4 t0_0 (by decide +kernel) _ fun j => ?_
  blk_simp
  rw [after_w4]

theorem arr3 (c : Dev nD) : (dats m 0 c).arrAt 3 (cfgs 0).N = leftO m c t0_0 := by
  refine (dats m 0 c).arrAt_eq_of_after_last 3 t0_0 (by decide +kernel) _ fun j => ?_
  blk_simp
  rw [after_w3]

theorem arrays_inj : Function.Injective (Pipeline.arrRef spec0) := by decide +kernel

theorem tail_v3 (c : Dev nD) : Pipeline.afterTail₀ cfgs (dats m) 0 (V0 m) [hostOps1] c main_v3
    = shapeCast S128x1x1024 (leftO m c t0_0) shapeCasts_S128x1024_S128x1x1024 := by
  unfold Pipeline.afterTail₀
  simp only [hostOps1, List.flatten_cons, List.flatten_nil, List.append_nil]
  after_results
  exact congrArg (fun x => shapeCast S128x1x1024 x shapeCasts_S128x1024_S128x1x1024)
    ((Pipeline.withArrays_arr spec0 arrays_inj c (V0 m c) (fun w => (dats m 0 c).arrAt w (cfgs 0).N) 3).trans (arr3 m c))

theorem tail_v4 (c : Dev nD) : Pipeline.afterTail₀ cfgs (dats m) 0 (V0 m) [hostOps1] c main_v4
    = shapeCast S_ (leftL m c t0_0) shapeCasts_S1x1_S_ := by
  unfold Pipeline.afterTail₀
  simp only [hostOps1, List.flatten_cons, List.flatten_nil, List.append_nil]
  after_results
  exact congrArg (fun x => shapeCast S_ x shapeCasts_S1x1_S_)
    ((Pipeline.withArrays_arr spec0 arrays_inj c (V0 m c) (fun w => (dats m 0 c).arrAt w (cfgs 0).N) 4).trans (arr4 m c))

/-! ## The two results -/

/-- The block the body works on, in the narrower format: the same numbers. -/
theorem narrow_apply (x : Vec Ideal S128x1024 .f32) : k0_pay24 (F := Ideal) x = x := by
  funext j
  idx_vars j
  pointwise [k0_pay24]

theorem leftO_apply (c : Dev nD) (t : Fin 128) (n : Fin 1024) :
    leftO m c t0_0 (ix2 t n) =
      layer (rc (iblk m c 0 t0_0)) (fun t => softmax (logit (iblk m c 0 t0_0) (iblk m c 1 t0_0) t))
        (rcs (m ((c.tc : Thread nD τ).loc main_arg2))) (rcs (m ((c.tc : Thread nD τ).loc main_arg3)))
        (rcs (m ((c.tc : Thread nD τ).loc main_arg4))) (rc (m ((c.tc : Thread nD τ).loc main_arg5)))
        (rc (m ((c.tc : Thread nD τ).loc main_arg6))) (rc (m ((c.tc : Thread nD τ).loc main_arg7)))
        (fun k => iblk m c 2 t0_0 (ix2 0 k)) t n := by
  unfold leftO
  rw [V_main_arg2, V_main_arg3, V_main_arg4, V_main_arg5, V_main_arg6, V_main_arg7, outAt_apply _ _ _ _ _ _ _ _ _ _ _ _ 64 le_rfl,
    if_pos (by omega), narrow_apply, Finset.sum_range]
  refine congrArg₂ (· + ·) (Finset.sum_congr rfl fun e _ => ?_) rfl
  have hbk : Ring.bk 64 e.val = e := Fin.ext (Nat.mod_eq_of_lt e.isLt)
  rw [part, hbk, wts_apply]
  refine congrArg (fun p => routed 8 p e * _) (funext fun d => ?_)
  exact pay1_apply _ _ _ _

theorem leftL_apply (c : Dev nD) (j : S1x1.Idx) :
    leftL m c t0_0 j = evenness fun t e => softmax (logit (iblk m c 0 t0_0) (iblk m c 1 t0_0) t) e := by
  unfold leftL
  rw [balance_apply, narrow_apply]

/-- What the kernel leaves in its two results. -/
theorem results_of_post (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v3) = shapeCast S128x1x1024 (leftO m c t0_0) shapeCasts_S128x1024_S128x1x1024
    ∧ r.2.mem ((c.tc : Thread nD τ).loc main_v4) = shapeCast S_ (leftL m c t0_0) shapeCasts_S1x1_S_ :=
  ⟨((h c).2 main_v3 (by decide)).trans (tail_v3 m c), ((h c).2 main_v4 (by decide)).trans (tail_v4 m c)⟩

end Cert.Proof.Moe

end
-- ==== Proof.PlainRouter.lean ====
/-
  The reference's router: its gates, the eight greatest of each row with their lanes, and the weights scattered back to
  those lanes.
-/
module

public import proofs.«01_k».proof.Proof.Gates
public import Idealize.ShloMosaic.Lib.Routing.OpsPair

@[expose] public section

set_option maxRecDepth 16384

noncomputable section

namespace Cert.Proof.Plain

open Cert.ReferenceIdeal Cert.ReferenceIdeal.Gen Cert.Proof.Moe
open Idealize.ShloMosaic

/-! ## What the reference's router computes -/

/-- A value per token, along the 64 lanes. -/
def along64 (x : FVec Ideal S128 .f32) : FVec Ideal S128x64 .f32 :=
  broadcastInDim S128x64 ![0, 1] bcast_S128x1_S128x64_0_1 (broadcastInDim S128x1 ![0] bcast_S128_S128x1_0 x)

/-- The logits. -/
def logits (X : FVec Ideal S128x1024 .f32) (W : FVec Ideal S1024x64 .f32) : FVec Ideal S128x64 .f32 :=
  Host.dotGeneral dot_S128x1024_S1024x64_S128x64_1_0_0_1_n_n none X W

/-- The exponentials of the logits, each less its row's greatest. -/
def exps (l : FVec Ideal S128x64 .f32) : FVec Ideal S128x64 .f32 :=
  Host.exp (subf l (along64 (maximumf (broadcastInDim S128 ![] bcast_S_S128 (constant S_ .f32 0xFF800000#32))
    (Host.reduce FloatOps.maximumf l (constant S_ .f32 0xFF800000#32) reducesTo_S128x64_S128_d1 h_S_))))

/-- The gates. -/
def probs (X : FVec Ideal S128x1024 .f32) (W : FVec Ideal S1024x64 .f32) : FVec Ideal S128x64 .f32 :=
  Host.divf (exps (logits X W))
    (along64 (Host.reduceAdd (exps (logits X W)) (constant S_ .f32 0x00000000#32) reducesTo_S128x64_S128_d1 h_S_))

/-- The eight greatest gates of each row, and their lanes. -/
def top (p : FVec Ideal S128x64 .f32) : (S128x8.Idx → Ideal .f32) × IVec S128x8 32 :=
  Host.topK S128x8 1 (FloatOps.cmpfTotal .gt) p sliceFits_S128x64_S128x8

/-- The tokens' numbers, a column. -/
def rows : IVec S128x1 32 := broadcastInDim S128x1 ![0] bcast_S128_S128x1_0 (iotaInDim S128 32 0)

/-- Where the eight gates of each row go: the row, and the lane. -/
def places (ix : IVec S128x8 32) : IVec S128x8x2 32 :=
  concatenate S128x8x2 2 [⟨S128x8x1, broadcastInDim S128x8x1 ![0, 1] bcast_S128x8_S128x8x1_0_1
      (broadcastInDim S128x8 ![0, 1] bcast_S128x1_S128x8_0_1
        (select (cmpi .slt rows (broadcastInDim S128x1 ![] bcast_S_S128x1 (constantI S_ 32 0#32)))
          (addi rows (broadcastInDim S128x1 ![] bcast_S_S128x1 (constantI S_ 32 128#32))) rows))⟩,
    ⟨S128x8x1, broadcastInDim S128x8x1 ![0, 1] bcast_S128x8_S128x8x1_0_1
      (select (cmpi .slt ix (broadcastInDim S128x8 ![] bcast_S_S128x8 (constantI S_ 32 0#32)))
        (addi ix (broadcastInDim S128x8 ![] bcast_S_S128x8 (constantI S_ 32 64#32))) ix)⟩]
    concatenates_S128x8x1_S128x8x1_S128x8x2_d2

/-- The weights, one per token and expert. -/
def weights (p : FVec Ideal S128x64 .f32) : FVec Ideal S128x64 .f32 :=
  Host.scatterAdd scatter_S128x64_S128x8x2_S128x8_n_01_01_2
    (broadcastInDim S128x64 ![] bcast_S_S128x64 (constant S_ .f32 0x00000000#32)) (places (top p).2) (top p).1

/-! ## Read lane by lane -/

theorem probs_apply (X : FVec Ideal S128x1024 .f32) (W : FVec Ideal S1024x64 .f32) (t : Fin 128) (e : Fin 64) :
    probs X W (ix2 t e) = softmax (logit X W t) e := by
  pointwise [probs, exps, logits, along64]
  rw [neg_inf_f32]
  simp only [max_bot_left]
  rfl

theorem along_ix2 (t : Fin 128) (e k : Fin 64) : Shape.Idx.along (s := S128x64) (ix2 t e) (1 : Fin 2) k = ix2 t k := by
  unfold Shape.Idx.along
  funext a
  match a with
  | ⟨0, _⟩ => rfl
  | ⟨1, _⟩ => rfl

theorem gt_lanes (x y : EReal) : (FloatOps.cmpfTotal (F := Ideal) (φ := .f32) .gt x y == 1#1) = decide (y < x) := by
  show (BitVec.ofBool (decide (y < x)) == 1#1) = _
  by_cases h : y < x <;> simp [h]

/-- A place of a row sorted greatest first. -/
theorem sorted_apply (p : FVec Ideal S128x64 .f32) (ix : IVec S128x64 32) (t : Fin 128) (e : Fin 64) :
    (Host.sort2 S128x64 1 (fun l r => FloatOps.cmpfTotal (F := Ideal) (φ := .f32) .gt l.1 r.1) p ix).1 (ix2 t e)
        = p (ix2 t (sortedFrom (fun a b : Fin 64 => decide (p (ix2 t b) < p (ix2 t a))) e))
      ∧ (Host.sort2 S128x64 1 (fun l r => FloatOps.cmpfTotal (F := Ideal) (φ := .f32) .gt l.1 r.1) p ix).2 (ix2 t e)
        = ix (ix2 t (sortedFrom (fun a b : Fin 64 => decide (p (ix2 t b) < p (ix2 t a))) e)) := by
  have hB : (fun k k' : Fin 64 => FloatOps.cmpfTotal (F := Ideal) (φ := .f32) .gt
        (p (Shape.Idx.along (s := S128x64) (ix2 t e) (1 : Fin 2) k)) (p (Shape.Idx.along (s := S128x64) (ix2 t e) (1 : Fin 2) k')) == 1#1)
      = fun a b : Fin 64 => decide (p (ix2 t b) < p (ix2 t a)) := by
    funext k k'
    rw [along_ix2, along_ix2, gt_lanes]
  unfold Host.sort2
  rw [dif_pos (show 1 < S128x64.rank by decide)]
  rw [← hB]
  constructor
  · exact congrArg p (along_ix2 t e _)
  · exact congrArg ix (along_ix2 t e _)

theorem top_apply (p : FVec Ideal S128x64 .f32) (t : Fin 128) (hp : ∀ e, -1 < p (ix2 t e)) (i : Fin 8) :
    (top p).1 (ix2 t i) = p (ix2 t (lane (-1) (fun d => p (ix2 t d)) i))
      ∧ (top p).2 (ix2 t i) = BitVec.ofNat 32 (lane (-1) (fun d => p (ix2 t d)) i).val := by
  have hsort := sortedFrom_greatest (p := fun d => p (ix2 t d)) hp (k := 8) (by decide) i
  have h := sorted_apply p (fun i => if hd : 1 < S128x64.rank then iotaInDim S128x64 32 ⟨1, hd⟩ i else 0#32) t (i.castLE (by decide))
  rw [hsort] at h
  unfold top Host.topK
  constructor
  · refine Eq.trans ?_ h.1
    dsimp only
    pointwise
    rfl
  · refine Eq.trans ?_ (h.2.trans ?_)
    · dsimp only
      pointwise
      rfl
    · rw [dif_pos (show 1 < S128x64.rank by decide)]; rfl

theorem wrap_word (n c : ℕ) (h : n < 64 ∨ n < 128) :
    (Scalar.select (IntOp.cmpi CmpIPredicate.slt (BitVec.ofNat 32 n) 0#32) (IntOp.addi (BitVec.ofNat 32 n) (BitVec.ofNat 32 c)) (BitVec.ofNat 32 n)).toInt
      = (n : ℤ) := by
  have hn : (BitVec.ofNat 32 n).toInt = (n : ℤ) := by
    rw [BitVec.toInt_eq_toNat_of_lt] <;> simp only [BitVec.toNat_ofNat] <;> omega
  have hc : IntOp.cmpi CmpIPredicate.slt (BitVec.ofNat 32 n) 0#32 = 0#1 := by
    show BitVec.ofBool (decide ((BitVec.ofNat 32 n).toInt < (0#32 : BitVec 32).toInt)) = _
    rw [hn, decide_eq_false (by simp)]; rfl
  rw [hc, ← hn]
  rfl

theorem places_row (ix : IVec S128x8 32) (t : Fin 128) (i : Fin 8) : (places ix (ix3 t i 0)).toInt = t.val := by
  pointwise [places, rows]
  exact wrap_word t.val 128 (.inr t.isLt)

theorem places_lane (ix : IVec S128x8 32) (t : Fin 128) (i : Fin 8) (e : Fin 64) (h : ix (ix2 t i) = BitVec.ofNat 32 e.val) :
    (places ix (ix3 t i 1)).toInt = e.val := by
  pointwise [places, rows]
  rw [h]
  exact wrap_word e.val 64 (.inl e.isLt)

theorem lands_iff (ix : IVec S128x8x2 32) (a : Fin 128) (b : Fin 8) (t : Fin 128) (e : Fin 64) :
    scatter_S128x64_S128x8x2_S128x8_n_01_01_2.resultIdx? (ix2 a b) ix = some (ix2 t e)
      ↔ (ix (ix3 a b 0)).toInt = t.val ∧ (ix (ix3 a b 1)).toInt = e.val := by
  exact Routing.scatter_lands2 _ rfl rfl rfl ix a b t e

/-- The reference's weights: in each row the eight picks' gates, zeros elsewhere. -/
theorem weights_apply (p : FVec Ideal S128x64 .f32) (hp : ∀ t e, -1 < p (ix2 t e)) (t : Fin 128) (e : Fin 64) :
    weights p (ix2 t e) = routed 8 (fun d => p (ix2 t d)) e := by
  have hl : ∀ (a : Fin 128) (b : Fin 8), scatter_S128x64_S128x8x2_S128x8_n_01_01_2.resultIdx? (ix2 a b) (places (top p).2) = some (ix2 t e)
      ↔ a = t ∧ lane (-1) (fun d => p (ix2 t d)) b = e := by
    intro a b
    rw [lands_iff, places_row, places_lane _ _ _ _ (top_apply p a (hp a) b).2]
    constructor
    · rintro ⟨h1, h2⟩
      have ha : a = t := Fin.ext (by exact_mod_cast h1)
      subst ha
      exact ⟨rfl, Fin.ext (by exact_mod_cast h2)⟩
    · rintro ⟨rfl, h2⟩
      exact ⟨rfl, by rw [h2]⟩
  have hz : (broadcastInDim S128x64 ![] bcast_S_S128x64 (constant (F := Ideal) S_ .f32 0x00000000#32)) (ix2 t e) = 0 :=
    Ideal.ofBits_zero_f32
  show _ + ∑ j ∈ Finset.univ.filter (fun j => scatter_S128x64_S128x8x2_S128x8_n_01_01_2.resultIdx? j (places (top p).2) = some (ix2 t e)),
    (top p).1 j = _
  rw [hz, zero_add]
  unfold routed
  by_cases h : ∃ j < 8, lane (-1) (fun d => p (ix2 t d)) j = e
  · rw [if_pos h]
    obtain ⟨b, hb, hbe⟩ := h
    have hone : (Finset.univ.filter fun j => scatter_S128x64_S128x8x2_S128x8_n_01_01_2.resultIdx? j (places (top p).2) = some (ix2 t e))
        = {ix2 t ⟨b, hb⟩} := by
      ext j
      idx_vars j
      rw [Finset.mem_filter, Finset.mem_singleton, ix2_inj]
      constructor
      · rintro ⟨-, h⟩
        obtain ⟨h1, h2⟩ := (hl _ _).mp h
        refine ⟨h1, Fin.ext ?_⟩
        exact lane_inj (hp t) (lt_trans (Fin.isLt _) (by decide)) (lt_trans hb (by decide)) (h2.trans hbe.symm)
      · rintro ⟨h1, h2⟩
        refine ⟨Finset.mem_univ _, (hl _ _).mpr ⟨h1, ?_⟩⟩
        rw [h2]; exact hbe
    rw [hone, Finset.sum_singleton, (top_apply p t (hp t) ⟨b, hb⟩).1]
    show p (ix2 t (lane (-1) (fun d => p (ix2 t d)) b)) = _
    rw [hbe]
  · rw [if_neg h]
    refine Finset.sum_eq_zero fun j hj => ?_
    idx_vars j
    obtain ⟨h1, h2⟩ := (hl _ _).mp (Finset.mem_filter.mp hj).2
    exact absurd ⟨_, Fin.isLt _, h2⟩ h

end Cert.Proof.Plain

end
-- ==== Proof.PlainResults.lean ====
/-
  The reference's two results, read at an index: the weighted sum of the experts' networks plus the shared expert's, and
  the balance of the gates.
-/
module

public import proofs.«01_k».proof.Proof.Experts
public import proofs.«01_k».proof.Proof.PlainRouter

@[expose] public section

set_option maxRecDepth 16384

noncomputable section

namespace Cert.Proof.Plain

open Cert.ReferenceIdeal Cert.ReferenceIdeal.Gen Cert.Proof.Moe
open Idealize.ShloMosaic
open Idealize.ShloMosaic.TcCoe Idealize.SL.Sem

/-! ## What the reference computes -/

/-- A matrix product with `X` on the left. -/
def times (X : FVec Ideal S128x1024 .f32) (A : FVec Ideal S1024x1024 .f32) : FVec Ideal S128x1024 .f32 :=
  Host.dotGeneral dot_S128x1024_S1024x1024_S128x1024_1_0_0_1_n_n none X A

/-- `X` against every expert's matrix. -/
def timesEach (X : FVec Ideal S128x1024 .f32) (A : FVec Ideal S64x1024x1024 .f32) : FVec Ideal S128x64x1024 .f32 :=
  Host.dotGeneral dot_S128x1024_S64x1024x1024_S128x64x1024_1_1_0_02_n_n none X A

/-- The hidden layers of all the experts. -/
def hiddens (X : FVec Ideal S128x1024 .f32) (A B : FVec Ideal S64x1024x1024 .f32) : FVec Ideal S128x64x1024 .f32 :=
  mulf (mulf (timesEach X A) (Host.divf (broadcastInDim S128x64x1024 ![] bcast_S_S128x64x1024 (constant S_ .f32 0x3F800000#32))
    (addf (broadcastInDim S128x64x1024 ![] bcast_S_S128x64x1024 (constant S_ .f32 0x3F800000#32)) (Host.exp (Host.negf (timesEach X A))))))
    (timesEach X B)

/-- The outputs of all the experts. -/
def outputs (X : FVec Ideal S128x1024 .f32) (A B C : FVec Ideal S64x1024x1024 .f32) : FVec Ideal S128x64x1024 .f32 :=
  transpose S128x64x1024 [2, 0, 1] (Host.dotGeneral dot_S64x1024x1024_S128x64x1024_S64x1024x128_1_2_2_0_0_1 none C (hiddens X A B))
    transposes_S64x1024x128_S128x64x1024_2_0_1

/-- The shared expert's gate. -/
def gate (X : FVec Ideal S128x1024 .f32) (g : FVec Ideal S1024x1 .f32) : FVec Ideal S128x1 .f32 :=
  Host.divf (broadcastInDim S128x1 ![] bcast_S_S128x1 (constant S_ .f32 0x3F800000#32))
    (addf (broadcastInDim S128x1 ![] bcast_S_S128x1 (constant S_ .f32 0x3F800000#32))
      (Host.exp (Host.negf (Host.dotGeneral dot_S128x1024_S1024x1_S128x1_1_0_0_1_n_n none X g))))

/-- The shared expert's output. -/
def shared (X : FVec Ideal S128x1024 .f32) (A B C : FVec Ideal S1024x1024 .f32) : FVec Ideal S128x1024 .f32 :=
  times (mulf (mulf (times X A) (Host.divf (broadcastInDim S128x1024 ![] bcast_S_S128x1024 (constant S_ .f32 0x3F800000#32))
    (addf (broadcastInDim S128x1024 ![] bcast_S_S128x1024 (constant S_ .f32 0x3F800000#32)) (Host.exp (Host.negf (times X A))))))
    (times X B)) C

/-- The layer's output. -/
def result (X : FVec Ideal S128x1024 .f32) (W : FVec Ideal S1024x64 .f32) (A B C : FVec Ideal S64x1024x1024 .f32)
    (A' B' C' : FVec Ideal S1024x1024 .f32) (g : FVec Ideal S1024x1 .f32) : FVec Ideal S128x1024 .f32 :=
  addf (Host.dotGeneral dot_S128x64_S128x64x1024_S128x1024_1_1_n_2_0_0 none (weights (probs X W)) (outputs X A B C))
    (mulf (broadcastInDim S128x1024 ![0, 1] bcast_S128x1_S128x1024_0_1 (gate X g)) (shared X A' B' C'))

/-- How far each expert's mean gate is from 1/64. -/
def offs (p : FVec Ideal S128x64 .f32) : FVec Ideal S64 .f32 :=
  subf (Host.divf (Host.reduceAdd p (constant S_ .f32 0x00000000#32) reducesTo_S128x64_S64_d0 h_S_)
    (broadcastInDim S64 ![] bcast_S_S64 (constant S_ .f32 0x43000000#32)))
    (broadcastInDim S64 ![] bcast_S_S64 (constant S_ .f32 0x3C800000#32))

/-- The balance of the gates. -/
def level (p : FVec Ideal S128x64 .f32) : FVec Ideal S_ .f32 :=
  Host.divf (Host.reduceAdd (mulf (offs p) (offs p)) (constant S_ .f32 0x00000000#32) reducesTo_S64_S_d0 h_S_)
    (constant S_ .f32 0x42800000#32)

/-- `x` as one row per token. -/
def flat (x : FVec Ideal S128x1x1024 .f32) : FVec Ideal S128x1024 .f32 := shapeCast _ x shapeCasts_S128x1x1024_S128x1024

/-- The reference's run, its results named. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = shapeCast _ (result (flat (m ((c.tc : Thread nD τ).loc main_arg0)))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8))) shapeCasts_S128x1024_S128x1x1024
      ∧ r.2.mem ((c.tc : Thread nD τ).loc main_v72)
          = level (probs (flat (m ((c.tc : Thread nD τ).loc main_arg0))) (m ((c.tc : Thread nD τ).loc main_arg1)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1, (h c).2.1, (h c).2.2⟩) (Cert.ReferenceIdeal.Value.run m ρ)

/-! ## Read at an index -/

theorem outputs_apply (X : FVec Ideal S128x1024 .f32) (A B C : FVec Ideal S64x1024x1024 .f32) (t : Fin 128) (e : Fin 64) (n : Fin 1024) :
    outputs X A B C (ix3 t e n) = network (rc X) (rcs A e) (rcs B e) (rcs C e) t n := by
  pointwise [outputs, hiddens, timesEach]
  exact Finset.sum_congr rfl fun x _ => mul_comm _ _

theorem gate_apply (X : FVec Ideal S128x1024 .f32) (g : FVec Ideal S1024x1 .f32) (t : Fin 128) :
    gate X g (ix2 t 0) = Ideal.logistic (gateSum (rc X) (fun k => g (ix2 k 0)) t) := by
  pointwise [gate]
  rfl

theorem shared_apply (X : FVec Ideal S128x1024 .f32) (A B C : FVec Ideal S1024x1024 .f32) (t : Fin 128) (n : Fin 1024) :
    shared X A B C (ix2 t n) = network (rc X) (rc A) (rc B) (rc C) t n := by
  pointwise [shared, times]
  rfl

theorem result_apply (X : FVec Ideal S128x1024 .f32) (W : FVec Ideal S1024x64 .f32) (A B C : FVec Ideal S64x1024x1024 .f32)
    (A' B' C' : FVec Ideal S1024x1024 .f32) (g : FVec Ideal S1024x1 .f32) (hp : ∀ t e, -1 < softmax (logit X W t) e)
    (t : Fin 128) (n : Fin 1024) :
    result X W A B C A' B' C' g (ix2 t n)
      = layer (rc X) (fun t => softmax (logit X W t)) (rcs A) (rcs B) (rcs C) (rc A') (rc B') (rc C') (fun k => g (ix2 k 0)) t n := by
  have hp' : ∀ t e, -1 < probs X W (ix2 t e) := fun t e => by rw [probs_apply]; exact hp t e
  pointwise [result]
  simp only [outputs_apply, gate_apply, shared_apply, weights_apply _ hp', probs_apply]
  rfl

theorem level_apply (X : FVec Ideal S128x1024 .f32) (W : FVec Ideal S1024x64 .f32) (j : S_.Idx) :
    level (probs X W) j = evenness fun t e => softmax (logit X W t) e := by
  pointwise [level, offs]
  simp only [probs_apply]
  rfl

end Cert.Proof.Plain

end
-- ==== Proof.Equal.lean ====
/-
  The two programs' results are equal whenever the router's logits are finite.
-/
module

public import proofs.«01_k».proof.Proof.Output
public import proofs.«01_k».proof.Proof.PlainResults
public import proofs.«01_k».proof.Defs

@[expose] public section

set_option maxRecDepth 16384

noncomputable section

namespace Cert.Proof.Moe

open Cert.KernelIdeal Cert.KernelIdeal.Gen
open Idealize.ShloMosaic

open Idealize.ShloMosaic.TcCoe Idealize.ShloMosaic.Tactic
open Idealize.SL.Sem

instance pre_facts : Cert.Pre_finite_logits.Facts where
  shapeCasts_S128x1x1024_S128x1024 := shapeCasts_S128x1x1024_S128x1024
  bcast_S_S128x64 := by decide
  dot_S128x1024_S1024x64_S128x64_1_0_0_1_n_n_wf := by decide

theorem inf_f32 : Ideal.ofBits .f32 0x7F800000#32 = ⊤ := by simp [Ideal.ofBits, Ideal.ieee]

theorem bounded_of_abs (x : EReal) (h : FloatOps.absf (F := Ideal) (φ := .f32) x < (⊤ : EReal)) : x ≠ ⊤ ∧ x ≠ ⊥ := by
  have h' : max x (-x) < ⊤ := h
  refine ⟨fun e => ?_, fun e => ?_⟩ <;> simp [e] at h'

/-- The precondition, read at one token and one expert: that logit is finite. -/
theorem finite_of (x : FVec Ideal S128x1x1024 .f32) (W : FVec Ideal S1024x64 .f32) (A B C : FVec Ideal S64x1024x1024 .f32)
    (A' B' C' : FVec Ideal S1024x1024 .f32) (g : FVec Ideal S1024x1 .f32)
    (h : Cert.Pre_finite_logits.fn (F := Ideal) x W A B C A' B' C' g = fun _ => 1#1) (t : Fin 128) (e : Fin 64) :
    logit (Plain.flat x) W t e ≠ ⊤ ∧ logit (Plain.flat x) W t e ≠ ⊥ := by
  have h := congrFun h (ix2 t e)
  unfold Cert.Pre_finite_logits.fn at h
  pointwise [Cert.Pre_finite_logits.dot_S128x1024_S1024x64_S128x64_1_0_0_1_n_n] at h
  have hl : logit (Plain.flat x) W t e = ∑ k, x (ix3 t 0 k) * W (ix2 k e) := by
    refine Finset.sum_congr rfl fun k _ => congrArg (· * W (ix2 k e)) ?_
    pointwise [Plain.flat]
  rw [← hl, inf_f32] at h
  refine bounded_of_abs _ (by_contra fun hn => ?_)
  rw [decide_eq_false hn] at h
  exact absurd h (by decide)

variable (m : (ℓ : Loc nD τ sig) → Buf (Elt Ideal) ℓ)

theorem finite (h : Cert.Pre_KernelIdeal_finite_logits m) (c : Dev nD) (t : Fin 128) (e : Fin 64) :
    logit (Plain.flat (m ((c.tc : Thread nD τ).loc main_arg0))) (m ((c.tc : Thread nD τ).loc main_arg1)) t e ≠ ⊤
    ∧ logit (Plain.flat (m ((c.tc : Thread nD τ).loc main_arg0))) (m ((c.tc : Thread nD τ).loc main_arg1)) t e ≠ ⊥ :=
  finite_of _ _ _ _ _ _ _ _ _ (h c) t e

/-- Equal arguments give equal outputs. -/
theorem outputs_equal (h : Cert.Pre_KernelIdeal_finite_logits m) (c : Dev nD) :
    shapeCast S128x1x1024 (leftO m c t0_0) shapeCasts_S128x1024_S128x1x1024 =
      shapeCast S128x1x1024 (Plain.result (Plain.flat (m ((c.tc : Thread nD τ).loc main_arg0))) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8))) shapeCasts_S128x1024_S128x1x1024 := by
  refine congrArg (fun x => shapeCast S128x1x1024 x shapeCasts_S128x1024_S128x1x1024) (funext fun j => ?_)
  idx_vars j
  rw [leftO_apply, Plain.result_apply _ _ _ _ _ _ _ _ _
    (fun t e => softmax_above _ (fun e => (finite m h c t e).1) (fun e => (finite m h c t e).2) e), iblk0, iblk1, iblk2]
  have hg : (fun k : Fin 1024 => shapeCast S1x1024 (m ((c.tc : Thread nD τ).loc main_arg8)) shapeCasts_S1024x1_S1x1024 (ix2 0 k))
      = fun k => m ((c.tc : Thread nD τ).loc main_arg8) (ix2 k 0) := by
    funext k
    pointwise
  rw [hg]
  rfl

/-- Equal arguments give equal balance terms. -/
theorem levels_equal (c : Dev nD) :
    shapeCast S_ (leftL m c t0_0) shapeCasts_S1x1_S_ =
      Plain.level (Plain.probs (Plain.flat (m ((c.tc : Thread nD τ).loc main_arg0))) (m ((c.tc : Thread nD τ).loc main_arg1))) := by
  funext j
  rw [Plain.level_apply]
  refine (leftL_apply m c _).trans ?_
  rw [iblk0, iblk1]
  rfl

end Cert.Proof.Moe

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.After
public import proofs.«01_k».proof.Proof.Equal

@[expose] public section

noncomputable section

namespace Cert.Proof

open Idealize.ShloMosaic Idealize.ShloMosaic.TcCoe
open Idealize.SL.Sem

theorem frame_ideal : Cert.quiescent_KernelIdeal (hKernelIdeal := Cert.KernelIdeal.Gen.facts) := fun m ρ _ =>
  (θ_run Cert.KernelIdeal.defs _ _).mono (fun r h => ⟨Moe.kept_of_post m r h.1, h.2⟩) (Moe.run_main m ρ)

theorem frame_kernel : Cert.quiescent_Kernel (hKernel := Cert.Kernel.Gen.facts) := fun m ρ _ => by
  rw [Same.defs_same, Same.main_same]
  exact (θ_run Cert.KernelIdeal.defs _ _).mono (fun r h => ⟨Moe.kept_of_post (F := Bits) m r h.1, h.2⟩) (Moe.run_main (F := Bits) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- Where the logits are finite, the kernel and the reference end with equal results. -/
theorem algebraic : Cert.algebraic_KernelIdeal_ReferenceIdeal_pre_finite_logits (hKernelIdeal := Cert.KernelIdeal.Gen.facts)
    (hReferenceIdeal := Cert.ReferenceIdeal.Gen.facts) (hPre_finite_logits := Moe.pre_facts) := fun m ρ m' ρ' hpre hargs =>
  ⟨_, _, (θ_run Cert.KernelIdeal.defs _ _).mono
      (fun r h c => ⟨(Moe.results_of_post m r h.1 c).1.trans (Moe.outputs_equal m hpre c),
        (Moe.results_of_post m r h.1 c).2.trans (Moe.levels_equal m c), Moe.kept_of_post m r h.1 c⟩) (Moe.run_main m ρ),
    (θ_run Cert.ReferenceIdeal.defs _ _).mono
      (fun r h c => by
        obtain ⟨h0, h1, hk⟩ := h c
        obtain ⟨a0, a1, a2, a3, a4, a5, a6, a7, a8⟩ := hargs c
        rw [a0, a1, a2, a3, a4, a5, a6, a7, a8] at h0
        rw [a0, a1] at h1
        exact ⟨h0, h1, hk⟩) (Plain.run_result m' ρ')⟩

theorem claim : Cert.Claim :=
  ⟨Cert.Kernel.Gen.facts, Cert.KernelIdeal.Gen.facts, Cert.ReferenceIdeal.Gen.facts, Moe.pre_facts, frame_kernel, frame_ideal,
    fun m ρ _ => frame_ideal m ρ trivial, frame_reference, fun m ρ _ => frame_reference m ρ trivial, trivial, algebraic⟩

end Cert.Proof
